-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x200 : Shape := ⟨2, ![4096, 200]⟩
abbrev S1000002x128 : Shape := ⟨2, ![1000002, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S1000002x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 1000002#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S1000002x128 : Shape := ⟨2, ![1000002, 128]⟩
abbrev S819200 : Shape := ⟨1, ![819200]⟩
abbrev S819200x128 : Shape := ⟨2, ![819200, 128]⟩
abbrev S25600 : Shape := ⟨1, ![25600]⟩
abbrev S256x128 : Shape := ⟨2, ![256, 128]⟩
abbrev S_ : Shape := ⟨0, ![]⟩
abbrev S128x128 : Shape := ⟨2, ![128, 128]⟩
abbrev S128 : Shape := ⟨1, ![128]⟩
abbrev S4096x200x128 : Shape := ⟨3, ![4096, 200, 128]⟩

abbrev nBuf : Table → Nat
  | .hbm => 5
  | .local .scVector .vmem => 4
  | _ => 0

abbrev bufTy : (tb : Table) → Fin (nBuf tb) → BufTy
  | .hbm, ⟨0, _⟩ => ⟨S4096x200, .i32⟩
  | .hbm, ⟨1, _⟩ => ⟨S1000002x128, .f32⟩
  | .hbm, ⟨2, _⟩ => ⟨S819200, .i32⟩
  | .hbm, ⟨3, _⟩ => ⟨S819200x128, .f32⟩
  | .hbm, ⟨4, _⟩ => ⟨S4096x200x128, .f32⟩
  | .local .scVector .vmem, ⟨0, _⟩ => ⟨S25600, .i32⟩
  | .local .scVector .vmem, ⟨1, _⟩ => ⟨S256x128, .f32⟩
  | .local .scVector .vmem, ⟨2, _⟩ => ⟨S256x128, .f32⟩
  | .local .scVector .vmem, ⟨3, _⟩ => ⟨S256x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
def k0_off2 (i : grid0.Coords) (c0_i32_34 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v27 : BitVec 32 := Scalar.addi v2 c0_i32_34
  let c0_i32_35 : BitVec 32 := 0#32
  ![v27.toNat, 0]
def k0_off2_at (r : Fin 7) : BitVec 32 :=
  if r.val < 3 then
    if r.val < 1 then
      0#32
    else
      if r.val < 2 then
        256#32
      else
        512#32
  else
    if r.val < 5 then
      if r.val < 4 then
        24576#32
      else
        24832#32
    else
      if r.val < 6 then
        25088#32
      else
        25344#32
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  ![v2.toNat, 0]
@[reducible] def k0_t1_loop : Scf.Loop 32 :=
  let c1_i32 : BitVec 32 := 1#32
  let c31_i32 : BitVec 32 := 31#32
  let v64 : BitVec 32 := Scalar.addi c1_i32 c31_i32
  let c1_i32_84 : BitVec 32 := 1#32
  ⟨c1_i32, v64, c1_i32_84⟩
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_163 : BitVec 32 := 0#32
  ![v2.toNat, 0]
def k0_off5 (k0_t1 : Fin k0_t1_loop.trips) (c0_i32_162 : BitVec 32) (c0_i32_167 : BitVec 32) : Fin 1 → Nat :=
  let c1_i32 : BitVec 32 := 1#32
  let c1_i32_84 : BitVec 32 := 1#32
  let arg15 : BitVec 32 := Scf.iv c1_i32 c1_i32_84 k0_t1
  let c3_i32 : BitVec 32 := 3#32
  let v123 : BitVec 32 := Scalar.muli arg15 c3_i32
  let v124 : BitVec 32 := Scalar.addi v123 c0_i32_162
  let c2_i32_165 : BitVec 32 := 2#32
  let v127 : BitVec 32 := Scalar.addi v124 c2_i32_165
  let c256_i32_166 : BitVec 32 := 256#32
  let v128 : BitVec 32 := Scalar.muli v127 c256_i32_166
  let v129 : BitVec 32 := Scalar.addi v128 c0_i32_167
  ![v129.toNat]
def k0_off6 (i : grid0.Coords) (k0_t1 : Fin k0_t1_loop.trips) (c0_i32_162 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c1_i32 : BitVec 32 := 1#32
  let c1_i32_84 : BitVec 32 := 1#32
  let arg15 : BitVec 32 := Scf.iv c1_i32 c1_i32_84 k0_t1
  let c3_i32 : BitVec 32 := 3#32
  let v123 : BitVec 32 := Scalar.muli arg15 c3_i32
  let v124 : BitVec 32 := Scalar.addi v123 c0_i32_162
  let c256_i32_188 : BitVec 32 := 256#32
  let v144 : BitVec 32 := Scalar.muli v124 c256_i32_188
  let v145 : BitVec 32 := Scalar.addi v2 v144
  let c0_i32_189 : BitVec 32 := 0#32
  ![v145.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S1000002x128 : Shape := ⟨2, ![1000002, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000002x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Streams.lean ====
/-
  Several indirect gathers in flight on one DMA semaphore. A stream credits its semaphore row by row, and every row of
  the streams here credits the same amount, so the streams together are one counted batch (`Transfers.Batch`) whose
  transfers are the rows: a stream of `o` rows is the batch's next `o` transfers. The waits name a whole stream's amount
  each; only the one that brings the units consumed to the batch's total tells that everything landed, and it hands back
  every row at once.

    * `RowDone` is what one row of a stream delivers: its row of the destination written with the row of the source its
      offset names, the entry of the offset list it read, and the piece of the source's share it was lent.
    * `rowDone_all`: the rows of a stream are the destination written with the gathered rows, the source's share and the
      list's share back.
    * `wp_gatherIssue`: the rule of one gather issued into a batch.
    * `bigSep_two`: a family over the rows of two streams is the first stream's and the second's.
-/
module

public import Idealize.ShloMosaic.Lib.Batch
public import Idealize.ShloMosaic.Lib.SparseCore.Stream
public import Idealize.ShloMosaic.Lib.Tactic

@[expose] public section

noncomputable section

namespace Cert.Proof.Streams

open Idealize.ShloMosaic
open Idealize.ShloMosaic.SparseCore (enqueueIndirectGather enqueueIndirectGather_bind gatherRow rowOf rowOf_of_lt rows gatherPayload)
open Idealize.ShloMosaic.Transfers (batchBody pending)
open Idealize.SL Idealize.SL.RA
open Idealize.SL.BI (sProp Storable bigSep)
open scoped Idealize.SL.BI
open Idealize.SL.BI.BIBase Idealize.SL.BI.Laws Idealize.SL.ProofMode Idealize.SL.Sem

/-! ## Families over an initial run of a batch's transfers -/

section Families

variable {M : Type} [URA M]

/-- The transfers pending from `k` are the next `o` and those pending from `k + o`. -/
theorem pending_take {n : ℕ} (k o : ℕ) (h : k + o ≤ n) (Φ : Fin n → sProp M) :
    bigSep (pending k) Φ = iprop((bigSep Finset.univ fun j : Fin o => Φ ⟨k + j.val, by omega⟩) ∗ bigSep (pending (k + o)) Φ) := by
  have hinj : Function.Injective fun j : Fin o => (⟨k + j.val, by omega⟩ : Fin n) := fun a b hab => by
    have := congrArg Fin.val hab; exact Fin.ext (by simpa using this)
  have hset : pending (n := n) k = Finset.univ.map ⟨_, hinj⟩ ∪ pending (k + o) := by
    ext t
    simp only [pending, Finset.mem_filter, Finset.mem_univ, _root_.true_and, Finset.mem_union, Finset.mem_map, Function.Embedding.coeFn_mk]
    constructor
    · intro ht
      by_cases hlt : t.val < k + o
      · exact .inl ⟨⟨t.val - k, by omega⟩, Fin.ext (Nat.add_sub_cancel' ht)⟩
      · exact .inr (by omega)
    · rintro (⟨j, rfl⟩ | ht)
      · exact Nat.le_add_right _ _
      · omega
  have hdisj : Disjoint (Finset.univ.map ⟨_, hinj⟩) (pending (n := n) (k + o)) := by
    rw [Finset.disjoint_left]
    intro t ht ht'
    obtain ⟨j, -, rfl⟩ := Finset.mem_map.mp ht
    simp only [pending, Finset.mem_filter, Finset.mem_univ, _root_.true_and, Function.Embedding.coeFn_mk] at ht'
    have := j.isLt; omega
  rw [hset, BI.bigSep_union hdisj, BI.bigSep_map]; rfl

/-- A family over the rows of two streams of `o` rows is the first's and the second's. -/
theorem bigSep_two {o : ℕ} (Φ Ψ : Fin o → sProp M) :
    bigSep Finset.univ (Fin.addCases (motive := fun _ => sProp M) Φ Ψ : Fin (o + o) → sProp M)
      = iprop(bigSep Finset.univ Φ ∗ bigSep Finset.univ Ψ) := by
  rw [BI.bigSep_univ_equiv finSumFinEquiv, BI.bigSep_univ_sum]
  simp only [finSumFinEquiv_apply_left, finSumFinEquiv_apply_right, Fin.addCases_left, Fin.addCases_right]; rfl

end Families

/-! ## One stream of a batch -/

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {Q : PUnit → sProp (MT nD τ sig Ix (Elt F) Name U Lvl)}

local notation "𝕄" => MT nD τ sig Ix (Elt F) Name U Lvl

/-- The list's index of entry `j`: the list in row-major order. -/
abbrev entryIx {o : ℕ} (hn : si.numel = o) (j : Fin o) : si.Idx := si.rowMajor.symm (j.cast hn.symm)

omit [DecidableEq Ix] [DecidableEq Name] [URA U] [Preorder Lvl] in
theorem entryIx_bijective {o : ℕ} (hn : si.numel = o) : Function.Bijective (entryIx (si := si) hn) :=
  si.rowMajor.symm.bijective.comp (finCongr hn.symm).bijective

/-- The row of the source named by entry `j` of the list. -/
def namedRow (src : Memref sig c.2.kind sp s₀ e) (hg : s₀.Gathers a s) (offs : Memref sig c.2.kind .vmem si .i32)
    (hn : si.numel = s.size hg.axis') (fs : Buf (Elt F) (src.view.loc c)) (fo : Buf (Elt F) (offs.view.loc c))
    (hin : ∀ x, (offs.view.read (Elt F) fo x).toNat < s₀.size hg.axis) (j : Fin (s.size hg.axis')) :
    (s.rowShape hg.axis').Idx → Elt F e :=
  fun i => src.view.read (Elt F) fs (hg.rowIdx (rows (offs.view.read (Elt F) fo) hn hin j) i)

/-- What row `j` of a stream delivers: its row of the destination at the source's row its entry names, the entry of the
    list, the row's piece of the source's share. -/
def RowDone (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
          ((dst.view.slice (s.rowRect hg.axis' j)).write (Elt F) fd
            (namedRow c src hg offs hn fs fo hin j) Finset.univ))
        ∗ (offs.view.loc c ↦[{offs.view.emb (entryIx hn j)}]{qo} fo))
      ∗ (src.view.loc c ↦[src.view.set]{pieceOf q _ ho j} fs))

instance rowDone_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (RowDone c src dst hg offs hn ho q qo fs fd fo hin j) := by
  unfold RowDone; infer_instance

/-- All rows of a stream done: the destination written with the gathered rows, the source's share and the list's back. -/
theorem rowDone_all {src : Memref sig c.2.kind sp s₀ e} {dst : Memref sig c.2.kind .vmem s e} {hg : s₀.Gathers a s}
    {offs : Memref sig c.2.kind .vmem si .i32} {hn : si.numel = s.size hg.axis'} {ho : 0 < s.size hg.axis'}
    {q qo : PosShare TreeShare} {fs : Buf (Elt F) (src.view.loc c)} {fd : Buf (Elt F) (dst.view.loc c)} {fo : Buf (Elt F) (offs.view.loc c)}
    {hin : ∀ x, (offs.view.read (Elt F) fo x).toNat < s₀.size hg.axis} :
    (bigSep Finset.univ (RowDone c src dst hg offs hn ho q qo fs fd fo hin) : sProp 𝕄)
      ⊢ iprop((dst.view.loc c ↦[dst.view.set]{fullShare}
            (dst.view.write (Elt F) fd (gatherPayload hg (src.view.read (Elt F) fs) (rows (offs.view.read (Elt F) fo) hn hin)) Finset.univ))
          ∗ (offs.view.loc c ↦[offs.view.set]{qo} fo) ∗ (src.view.loc c ↦[src.view.set]{q} fs)) := by
  rw [pointsTo_piecesOf (src.view.set) fs ho q, pointsTo_entries c offs.view (entryIx hn) (entryIx_bijective hn) qo fo]
  unfold RowDone
  iintro H
  ihave H1 := Transfers.bigSep_sep_out _ _ _ $$ H
  icases H1 with ⟨H2, Hs⟩
  ihave H3 := Transfers.bigSep_sep_out _ _ _ $$ H2
  icases H3 with ⟨Hd, Ho⟩
  isplitl [Hd]
  · iapply (pointsTo_rows_write c dst.view hg.axis' fd _
      (gatherPayload hg (src.view.read (Elt F) fs) (rows (offs.view.read (Elt F) fo) hn hin))
      (fun k j => by unfold gatherPayload namedRow; rw [Shape.Gathers.idx_rowRect_emb])) $$ Hd
  · isplitl [Ho] <;> iassumption

/-- ONE GATHER OF A BATCH: the rows of the gather are the batch's next transfers. Holding a share of the source, the
    destination outright, a share of the list (every word of it in range), and the batch with `k` transfers issued whose
    next deliveries are this gather's rows', the gather is issued and the batch held with its rows issued too. -/
theorem wp_gatherIssue [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {q qo : PosShare TreeShare} {fs : Buf (Elt F) (src.view.loc c)} {fd : Buf (Elt F) (dst.view.loc c)} {fo : Buf (Elt F) (offs.view.loc c)}
    {n : ℕ} {D : Fin n → sProp 𝕄} {k u : ℕ} (ι : Ix) (N : ℕ)
    (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hk : k + s.size hg.axis' ≤ n) (hu : u ≤ k * N)
    (hD : ∀ j : Fin (s.size hg.axis'), D ⟨k + j.val, by omega⟩ = RowDone c src dst hg offs hn ho q qo fs fd fo hin j) :
    iprop((src.view.loc c ↦[src.view.set]{q} fs) ∗ (dst.view.loc c ↦[dst.view.set]{fullShare} fd)
        ∗ (offs.view.loc c ↦[offs.view.set]{qo} fo) ∗ Transfers.Batch EC c (.dma sem) ι N D k u)
      ⊢ iprop((Transfers.Batch EC c (.dma sem) ι N D (k + s.size hg.axis') u -∗ Q ⟨⟩)
          -∗ wp frame (wpE defs 𝒱 c bd) Set.univ (enqueueIndirectGather hp src dst hg offs hn sem hsrc he hsp hr) Q) := by
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  -- every row the family could name at an entry credits alike; the row named at the words held is `r`'s
  let rd : Fin (s.size hg.axis') → RowDma τ sig (Elt F) c.2 sem := fun j => gatherRow c src dst hg sem hsrc he hsp hr j (r j)
  have hagree : S.RowsAgree := by
    intro j x x' ρ ρ' h h'
    obtain ⟨y, -, rfl⟩ := Option.map_eq_some_iff.mp h
    obtain ⟨y', -, rfl⟩ := Option.map_eq_some_iff.mp h'
    rfl
  have hnamed : ∀ j, S.row j (S.word fo j) = some (rd j) := fun j => by
    show (rowOf (s₀.size hg.axis) (offs.view.read (Elt F) fo (entryIx hn j))).map _ = _
    rw [rowOf_of_lt (hin _)]; rfl
  have hsum : ∑ j, (rd j).dst.view.dmaCredit = s.size hg.axis' * N :=
    SparseCore.sum_rowCredit_eq _ hN rfl
  unfold Transfers.Batch
  rw [pointsTo_rows c dst.view hg.axis' fullShare fd,
    pointsTo_entries c offs.view (entryIx hn) (entryIx_bijective hn) qo fo, pointsTo_piecesOf (src.view.set) fs ho q]
  iintro ⟨Hs, Hd, Ho, %γ, %γ₀, %κ, #Hinv, Hc, H0, Hcred⟩ HQ
  ihave Hc' := (Entails.of_eq (pending_take k (s.size hg.axis') hk (fun t => count EC (γ t) 0))) $$ Hc
  icases Hc' with ⟨Hnow, Hlater⟩
  iapply (wp_enqueueIndirectDma (k := Prog.ret) 𝒱 c bd Set.univ (qo := qo) (fo := fo)
    (rd := rd) ι (s.size hg.axis' * N) hagree hnamed hsum) $$ [Hs Hd Ho Hnow]
  · have hone : ∀ j, iprop(inv κ (batchBody EC (c, SemLoc.dma sem) N D γ γ₀)
          ∗ ((((src.view.loc c ↦[src.view.set]{pieceOf q _ ho j} fs)
            ∗ (dst.view.loc c ↦[(dst.view.slice (s.rowRect hg.axis' j)).set]{fullShare} fd))
            ∗ (offs.view.loc c ↦[{offs.view.emb (entryIx hn j)}]{qo} fo))
            ∗ count EC (γ ⟨k + j.val, by omega⟩) 0))
        ⊢ iprop(S.heldEntry qo fo j ∗ (S.heldEntry qo fo j -∗ rowRes c (rd j))) := fun j => by
      iintro ⟨#Hinv, ⟨⟨Hsj, Hdj⟩, Hoj⟩, Hc⟩
      isplitl [Hoj]; · iexact Hoj
      iintro Hoj
      unfold rowRes
      iexists pieceOf q _ ho j, fs, iprop((dst.view.loc c ↦[(dst.view.slice (s.rowRect hg.axis' j)).set]{fullShare}
          ((dst.view.slice (s.rowRect hg.axis' j)).write (Elt F) fd (namedRow c src hg offs hn fs fo hin j) Finset.univ))
        ∗ (offs.view.loc c ↦[{offs.view.emb (entryIx hn j)}]{qo} fo))
      isplitl [Hsj]; · iexact Hsj
      isplitl [Hdj Hoj]
      · iapply writeUpdate_frame
        isplitl [Hdj]
        · iapply (pointsTo_writeUpdate c (v := dst.view.slice (s.rowRect hg.axis' j)) subset_rfl) $$ Hdj
        · iexact Hoj
      · have hcr := Transfers.batch_creditUpdate EC (g := (c, SemLoc.dma sem)) (N := N) (D := D) (γ := γ) (γ₀ := γ₀) (ι := κ)
          ⟨k + j.val, by omega⟩ (R₀ := RowDone c src dst hg offs hn ho q qo fs fd fo hin j) (Entails.of_eq (hD j).symm)
        rw [← hN j] at hcr
        iapply hcr
        isplitr; · rw [hN j]; iexact Hinv
        iexact Hc
    unfold Stream.res
    ihave H1 := Transfers.bigSep_sep_in _ _ _ $$ [Hs Hd]; · isplitl [Hs] <;> iassumption
    ihave H2 := Transfers.bigSep_sep_in _ _ _ $$ [H1 Ho]; · isplitl [H1] <;> iassumption
    ihave H3 := Transfers.bigSep_sep_in _ _ _ $$ [H2 Hnow]; · isplitl [H2] <;> iassumption
    iapply (Transfers.bigSep_mono_pers Finset.univ _ _ _ fun j _ => hone j)
    isplitr; · iexact Hinv
    iexact H3
  · iintro Hcred'
    rw [wp_ret]
    imodintro
    iapply HQ
    iexists γ, γ₀, κ
    isplitr; · iexact Hinv
    isplitl [Hlater]; · iexact Hlater
    isplitl [H0]; · iexact H0
    rw [show (k + s.size hg.axis') * N - u = (k * N - u) + s.size hg.axis' * N by rw [Nat.add_mul]; omega, ← tallyAt_add]
    icombine Hcred Hcred' as H
    iexact H

end Cert.Proof.Streams

end
-- ==== Proof.Gather.lean ====
/-
  One vector subcore's work, operation by operation. The subcore has a list of 25600 words, its part of the flattened
  `x`, in its index scratch, and three row buffers of 256 rows each (`Slot`). Chunk `k` of its 100 chunks is the 256 rows
  of the table that words `256 k …` name. A chunk passes through a row buffer in six operations, and between them the
  buffer is in one of these states:

    * `Idle`: the buffer's rows at any contents; the shares of the table and of the list that its gathers borrow
      (`Kit`), its gather semaphore and its copy-out semaphore at zero.
    * `Gath1`, `Gath2`, `Gath3`: the first half's gather issued; both halves'; the first wait done. The two gathers are
      one batch (`Streams`) of 256 rows.
    * `Loaded`: the buffer holds the chunk's rows of the table.
    * `Put`: the copy out to the chunk's rows of the result in flight; after its wait they hold the rows of the table
      (`Done`), and the buffer is `Idle` again.

  Here are the kernel's views and the values that they hold; `Steps` defines the states and has a theorem per operation,
  for any buffer, any chunk and any subcore.
-/
module

public import proofs.«01_k».proof.Proof.Gen.KernelIdeal
public import proofs.«01_k».proof.Proof.Gen.KernelIdeal.Skeleton
public import proofs.«01_k».proof.Proof.Streams
public import Idealize.ShloMosaic.Lib.SparseCore.Quiescent
public import Idealize.ShloMosaic.Lib.SparseCore.Ops
public import Idealize.ShloMosaic.Lib.Tactic

@[expose] public section

noncomputable section

namespace Cert.Proof.Gather

open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Streams

variable {F : FTy → Type}

/-! ## The subcore, its memories, the resource algebra -/

abbrev UH : Type := URounds (GSem nD τ sig) ℕ
abbrev UU : Type := UH × Counters

local notation "𝕄" => MT nD τ sig (HIx 1) (Elt F) ℕ UU ℕ

abbrev EC : UEmb Counters (MT nD τ sig (HIx 1) (Elt F) ℕ UU ℕ) := countersEmb

/-- The SparseCore and the vector subcore the coordinates name. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The table, the flattened `x`, the result, and the subcore's index scratch. -/
abbrev tabM : Memref sig .scVector .hbm S1000002x128 .f32 := Memref.whole main_arg1_scv
abbrev lstM : Memref sig .scVector .hbm S819200 .i32 := Memref.whole main_v0_scv
abbrev outM : Memref sig .scVector .hbm S819200x128 .f32 := Memref.whole main_v1_scv
abbrev ixM : Memref sig .scVector .vmem S25600 .i32 := Memref.whole cc0_scratch0

/-- The table as a gather names it: all of it, as a slice. -/
abbrev tabAll : Memref sig .scVector .hbm S1000002x128 .f32 :=
  tabM.slice (Rect.unit (s := S1000002x128) ![0, 0] S1000002x128.size inb_S1000002x128_S1000002x128_0_0) (fun _ => rfl)

/-- The first row of the result the subcore writes. -/
def base (L : grid0.Coords) : ℕ := 51200 * (L 1).val + 25600 * (L 0).val

theorem base_le (L : grid0.Coords) : base L + 25600 ≤ 819200 := by
  have h0 : (L 0).val < 2 := (L 0).isLt
  have h1 : (L 1).val < 16 := (L 1).isLt
  unfold base; omega

/-- Chunk `k` of the subcore's rows of the result; -/
theorem chunk_inb (L : grid0.Coords) (k : Fin 100) : ∀ a, (![base L + 256 * k.val, 0] : Fin 2 → ℕ) a + S256x128.size a ≤ S819200x128.size a
  | 0 => show base L + 256 * k.val + 256 ≤ 819200 by have := base_le L; have := k.isLt; omega
  | 1 => show 0 + 128 ≤ 128 by omega
abbrev chunkRect (L : grid0.Coords) (k : Fin 100) : Rect S819200x128 := Rect.unit (s := S819200x128) ![base L + 256 * k.val, 0] S256x128.size (chunk_inb L k)
abbrev chunk (L : grid0.Coords) (k : Fin 100) : Memref sig .scVector .hbm S256x128 .f32 := outM.slice (chunkRect L k) (fun _ => rfl)

/-- the words of the list that name half `h` of it; -/
theorem words_inb (k : Fin 100) (h : Fin 2) : ∀ a, (![256 * k.val + 128 * h.val] : Fin 1 → ℕ) a + S128.size a ≤ S25600.size a
  | 0 => show 256 * k.val + 128 * h.val + 128 ≤ 25600 by have := k.isLt; have := h.isLt; omega
abbrev words (k : Fin 100) (h : Fin 2) : Memref sig .scVector .vmem S128 .i32 :=
  ixM.slice (Rect.unit (s := S25600) ![256 * k.val + 128 * h.val] S128.size (words_inb k h)) (fun _ => rfl)

/-- half `h` of a row buffer. -/
theorem half_inb (h : Fin 2) : ∀ a, (![128 * h.val, 0] : Fin 2 → ℕ) a + S128x128.size a ≤ S256x128.size a
  | 0 => show 128 * h.val + 128 ≤ 256 by have := h.isLt; omega
  | 1 => show 0 + 128 ≤ 128 by omega
abbrev halfRect (h : Fin 2) : Rect S256x128 := Rect.unit (s := S256x128) ![128 * h.val, 0] S128x128.size (half_inb h)
abbrev half (b : Memref sig .scVector .vmem S256x128 .f32) (h : Fin 2) : Memref sig .scVector .vmem S128x128 .f32 := b.slice (halfRect h) (fun _ => rfl)

/-- The number of rows of one gather. -/
abbrev nr : ℕ := S128x128.size gathers_S1000002x128_S128x128.axis'

/-! ## The values -/

/-- Element `c` of row `r` of the table. -/
def tabIx (r : ℕ) (c : Fin 128) : S1000002x128.Idx := fun a => match a with
  | 0 => (Fin.ofNat 1000002 r : Fin 1000002)
  | 1 => c

/-- Word `n` of the flattened `x`. -/
def lstIx (n : ℕ) : S819200.Idx := fun a => match a with
  | 0 => (Fin.ofNat 819200 n : Fin 819200)

/-- The result: row `n` is the row of the table that word `n` of the flattened `x` names. -/
def goal (tab : S1000002x128.Idx → Elt F .f32) (ids : S819200.Idx → Elt F .i32) : S819200x128.Idx → Elt F .f32 :=
  fun x => tab (tabIx (ids (lstIx (x 0).val)).toNat (x 1))

/-- The subcore's part of the flattened `x`. -/
def part (L : grid0.Coords) (ids : S819200.Idx → Elt F .i32) : S25600.Idx → Elt F .i32 :=
  (lstM.slice (Rect.unit (s := S819200) (k0_off1 L) S25600.size (k0_off1_inb L)) (fun _ => rfl)).view.read (Elt F) ids

/-- The rows of the table chunk `k` names. -/
def chunkRows (L : grid0.Coords) (k : Fin 100) (tab : S1000002x128.Idx → Elt F .f32) (ids : S819200.Idx → Elt F .i32) : S256x128.Idx → Elt F .f32 :=
  (chunk L k).view.read (Elt F) (goal tab ids)

/-- Every word of the flattened `x` names a row. -/
def InRange (ids : S819200.Idx → Elt F .i32) : Prop := ∀ n, (ids n).toNat < 1000002

variable {tab : S1000002x128.Idx → Elt F .f32} {ids : S819200.Idx → Elt F .i32} {L : grid0.Coords} {k : Fin 100}

theorem words_inRange (hin : InRange ids) (h : Fin 2) :
    ∀ x, ((words k h).view.read (Elt F) (part L ids) x).toNat < S1000002x128.size gathers_S1000002x128_S128x128.axis :=
  fun _ => hin _

theorem words_numel : S128.numel = 128 := rfl

/-- Entry `j` of a list of 128 words is its word `j`. -/
theorem entry_val (j : Fin 128) : (entryIx (si := S128) words_numel j 0).val = j.val :=
  (Shape.rowMajor_val_one _).symm.trans (congrArg Fin.val (Equiv.apply_symm_apply S128.rowMajor (j.cast words_numel.symm)))

/-- What a half's gather delivers is the half of the chunk's rows. -/
theorem gather_rows (hin : InRange ids) (h : Fin 2) (y : S128x128.Idx) :
    SparseCore.gatherPayload gathers_S1000002x128_S128x128 (tabAll.view.read (Elt F) tab)
        (SparseCore.rows ((words k h).view.read (Elt F) (part L ids)) rfl (words_inRange (L := L) hin h)) y
      = chunkRows L k tab ids ((halfRect h).emb y) := by
  have h0 : (y 0).val < 128 := (y 0).isLt
  have hL := base_le L
  have hk := k.isLt
  have hh := h.isLt
  -- the word the row's entry is, as a word of the flattened `x`
  have hword : (words k h).view.read (Elt F) (part L ids) (entryIx (si := S128) words_numel (y 0))
      = ids (lstIx ((chunkRect L k).emb ((halfRect h).emb y) 0).val) := by
    show ids _ = ids _
    congr 1
    funext a
    match a with
    | 0 =>
      apply Fin.ext
      show k0_off1 L 0 + 1 * (256 * k.val + 128 * h.val + 1 * (entryIx (si := S128) words_numel (y 0) 0).val)
        = (base L + 256 * k.val + 1 * (128 * h.val + 1 * (y 0).val)) % 819200
      have he := entry_val (y 0)
      have hb : k0_off1 L 0 = base L := congrFun (k0_off1_eq L) 0
      omega
  show tab _ = tab _
  congr 1
  funext a
  match a with
  | 0 =>
    apply Fin.ext
    show 0 + 1 * ((words k h).view.read (Elt F) (part L ids) (entryIx (si := S128) words_numel (y 0))).toNat
      = (ids (lstIx ((chunkRect L k).emb ((halfRect h).emb y) 0).val)).toNat % 1000002
    rw [hword, Nat.mod_eq_of_lt (hin _)]; omega
  | 1 =>
    apply Fin.ext
    show 0 + 1 * (y 1).val = 0 + 1 * (0 + 1 * (y 1).val)
    omega

/-- A row buffer's elements are its halves'. -/
theorem half_union (b : Memref sig .scVector .vmem S256x128 .f32) :
    b.view.set = (half b 0).view.set ∪ (half b 1).view.set ∧ Disjoint (half b 0).view.set (half b 1).view.set := by
  have hu : (Finset.univ : Finset S256x128.Idx) = (halfRect 0).set ∪ (halfRect 1).set := by
    symm; rw [Finset.eq_univ_iff_forall]
    intro y
    have h0 : (y 0).val < 256 := (y 0).isLt
    have h1 : (y 1).val < 128 := (y 1).isLt
    rw [Finset.mem_union, Rect.mem_set_unit, Rect.mem_set_unit]
    by_cases hy : (y 0).val < 128
    · exact .inl fun a => match a with
        | 0 => ⟨Nat.zero_le _, by show (y 0).val < 0 + 128; omega⟩
        | 1 => ⟨Nat.zero_le _, by show (y 1).val < 0 + 128; omega⟩
    · exact .inr fun a => match a with
        | 0 => ⟨by show 128 ≤ (y 0).val; omega, by show (y 0).val < 128 + 128; omega⟩
        | 1 => ⟨Nat.zero_le _, by show (y 1).val < 0 + 128; omega⟩
  have hd : Disjoint (halfRect 0).set (halfRect 1).set := Rect.unit_disjoint (0 : Fin 2) (.inl (Nat.le_refl 128))
  have e : ∀ h, (half b h).view.set = (halfRect h).set.map b.view.emb := fun h => View.set_slice _ _
  rw [e, e, ← Finset.map_union, ← hu]
  exact ⟨rfl, (Finset.disjoint_map _).mpr hd⟩

/-- What a transfer into a subcore's view of 32-bit elements credits: its bits. -/
theorem credit_eq {s : Shape} {n : ℕ} (h : s.numel = n) {t : Table} {b : Fin (sig.nBuf t)} : sig.dmaCredit .scVector t b s .f32 = n * 32 := by
  subst h; rfl

theorem half_credit (b : Memref sig .scVector .vmem S256x128 .f32) (h : Fin 2) : (half b h).view.dmaCredit = 128 * 4096 :=
  credit_eq (n := 16384) rfl
theorem row_credit (b : Memref sig .scVector .vmem S256x128 .f32) (h : Fin 2) (j : Fin nr) :
    ((half b h).slice (S128x128.rowRect gathers_S1000002x128_S128x128.axis' j) (S128x128.stride_rowRect gathers_S1000002x128_S128x128.axis' j)).view.dmaCredit
      = 4096 :=
  credit_eq (n := 128) rfl
theorem chunk_credit (off : Fin 2 → ℕ) (inb : ∀ a, off a + S256x128.size a ≤ S819200x128.size a) :
    (outM.slice (Rect.unit (s := S819200x128) off S256x128.size inb) (fun _ => rfl)).view.dmaCredit = 1048576 :=
  credit_eq (n := 32768) rfl

end Cert.Proof.Gather

end
-- ==== Proof.Steps.lean ====
/-
  The operations on a row buffer, one theorem each: the two gathers of a chunk, their two waits, the copy out and its
  wait. Each says: from the buffer's state before, and with what follows run from the state after, the operation runs.
  The states are named in the definitions; `Gather` describes the chunk's round through them.
-/
module

public import proofs.«01_k».proof.Proof.Gather

@[expose] public section

noncomputable section

namespace Cert.Proof.Gather

open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Streams

variable {F : FTy → Type}

local notation "𝕄" => MT nD τ sig (HIx 1) (Elt F) ℕ UU ℕ

/-- A row buffer, its gather semaphore and its copy-out semaphore, and the shares of the table and of the list that its
    two halves' gathers borrow. -/
structure Slot where
  buf : Memref sig .scVector .vmem S256x128 .f32
  g : DmaSems sig S_
  w : DmaSems sig S_
  q : Fin 2 → PosShare TreeShare
  p : Fin 2 → PosShare TreeShare

/-- What the subcore works with: where it is, the table, the flattened `x`, whose words all name rows. -/
structure Job (F : FTy → Type) where
  d : Dev nD
  L : grid0.Coords
  tab : S1000002x128.Idx → Elt F .f32
  ids : S819200.Idx → Elt F .i32
  hin : InRange ids

variable (J : Job F) (s : Slot) (k : Fin 100)

abbrev Job.thr (J : Job F) : Thread nD τ := Gather.thr J.d J.L
abbrev Job.list (J : Job F) : S25600.Idx → Elt F .i32 := part J.L J.ids

/-! ## The states -/

/-- The buffer's rows, at any contents; -/
def Rows : sProp 𝕄 := iprop(∃ f, s.buf.view.loc J.thr ↦[s.buf.view.set]{fullShare} f)
/-- holding chunk `k`'s rows of the table. -/
def Full : sProp 𝕄 :=
  iprop(∃ f, ⌜s.buf.view.read (Elt F) f = chunkRows J.L k J.tab J.ids⌝ ∗ s.buf.view.loc J.thr ↦[s.buf.view.set]{fullShare} f)

/-- The shares of the table and of the list the gather of half `h` borrows; -/
def Lent (h : Fin 2) : sProp 𝕄 :=
  iprop((tabM.view.loc J.thr ↦[Finset.univ]{s.q h} J.tab) ∗ (ixM.view.loc J.thr ↦[Finset.univ]{s.p h} J.list))
/-- what of them it does not borrow. -/
def Left (h : Fin 2) : sProp 𝕄 :=
  iprop((tabM.view.loc J.thr ↦[Finset.univ \ tabAll.view.set]{s.q h} J.tab) ∗ (ixM.view.loc J.thr ↦[Finset.univ \ (words k h).view.set]{s.p h} J.list))
/-- Both halves' shares and the gather semaphore at zero. -/
def Kit : sProp 𝕄 := iprop(Lent J s 0 ∗ Lent J s 1 ∗ semVal (J.thr, .dma s.g.sem) 0)

theorem rows_pos : 0 < nr := by decide

/-- What row `j` of half `h`'s gather delivers. -/
def half1 (h : Fin 2) (fd : Buf (Elt F) (s.buf.view.loc J.thr)) : Fin nr → sProp 𝕄 :=
  RowDone J.thr tabAll (half s.buf h) gathers_S1000002x128_S128x128 (words k h) words_numel rows_pos (s.q h) (s.p h) J.tab fd J.list
    (words_inRange J.hin h)
/-- All its rows delivered: the half written with the rows of the table its words name. -/
theorem half1_all (h : Fin 2) (fd : Buf (Elt F) (s.buf.view.loc J.thr)) :
    (bigSep Finset.univ (half1 J s k h fd) : sProp 𝕄)
      ⊢ iprop((s.buf.view.loc J.thr ↦[(half s.buf h).view.set]{fullShare} ((half s.buf h).view.write (Elt F) fd
            (SparseCore.gatherPayload gathers_S1000002x128_S128x128 (tabAll.view.read (Elt F) J.tab)
              (SparseCore.rows ((words k h).view.read (Elt F) J.list) words_numel (words_inRange J.hin h))) Finset.univ))
          ∗ ((words k h).view.loc J.thr ↦[(words k h).view.set]{s.p h} J.list) ∗ (tabAll.view.loc J.thr ↦[tabAll.view.set]{s.q h} J.tab)) :=
  rowDone_all (c := J.thr) (src := tabAll) (dst := half s.buf h) (offs := words k h)
/-- What the rows of both gathers deliver. -/
def both (fd : Buf (Elt F) (s.buf.view.loc J.thr)) : Fin (nr + nr) → sProp 𝕄 :=
  Fin.addCases (motive := fun _ => sProp 𝕄) (half1 J s k 0 fd) (half1 J s k 1 fd)

instance both_storable (fd : Buf (Elt F) (s.buf.view.loc J.thr)) (t : Fin (nr + nr)) : Storable (upEmb : UEmb _ 𝕄) (both J s k fd t) := by
  refine Fin.addCases (motive := fun t => Storable (upEmb : UEmb _ 𝕄) (both J s k fd t)) (fun j => ?_) (fun j => ?_) t
  · rw [both, Fin.addCases_left]; exact rowDone_storable (c := J.thr) ..
  · rw [both, Fin.addCases_right]; exact rowDone_storable (c := J.thr) ..

/-- The batch of chunk `k`'s two gathers, `i` rows issued and `u` units waited for. -/
abbrev Flying (fd : Buf (Elt F) (s.buf.view.loc J.thr)) (i u : ℕ) : sProp 𝕄 :=
  Transfers.Batch EC J.thr (.dma s.g.sem) (default : HIx 1) 4096 (both J s k fd) i u

/-- The copy-out semaphore at zero. -/
def Free : sProp 𝕄 := semVal (J.thr, .dma s.w.sem) 0

/-- Nothing in flight; -/
def Idle : sProp 𝕄 := iprop(Rows J s ∗ Kit J s ∗ Free J s)
/-- the first half's gather issued; -/
def Gath1 : sProp 𝕄 :=
  iprop((∃ fd, Flying J s k fd (0 + nr) 0 ∗ (s.buf.view.loc J.thr ↦[(half s.buf 1).view.set]{fullShare} fd) ∗ Left J s k 0 ∗ Lent J s 1) ∗ Free J s)
/-- both halves' issued; -/
def Gath2 : sProp 𝕄 := iprop((∃ fd, Flying J s k fd (nr + nr) 0 ∗ Left J s k 0 ∗ Left J s k 1) ∗ Free J s)
/-- the first wait done; -/
def Gath3 : sProp 𝕄 := iprop((∃ fd, Flying J s k fd (nr + nr) (0 + 128 * 4096) ∗ Left J s k 0 ∗ Left J s k 1) ∗ Free J s)
/-- the chunk's rows there; -/
def Loaded : sProp 𝕄 := iprop(Full J s k ∗ Kit J s ∗ Free J s)

/-- Chunk `k`'s rows of the result at any contents; holding the rows of the table. -/
def Todo : sProp 𝕄 := iprop(∃ f, outM.view.loc J.thr ↦[(chunk J.L k).view.set]{fullShare} f)
def Done : sProp 𝕄 := outM.view.loc J.thr ↦[(chunk J.L k).view.set]{fullShare} (goal J.tab J.ids)
/-- The copy out of chunk `k` in flight. -/
def Put : sProp 𝕄 :=
  iprop(Transfers.Flight EC J.thr (.dma s.w.sem) (default : HIx 1) 1048576 iprop(Done J k ∗ Rows J s) ∗ Kit J s)

/-- The chunks before `a` copied out, those from `b` on still to come; between, in flight. -/
def Chunks (a b : ℕ) : sProp 𝕄 :=
  iprop(bigSep (Finset.univ.filter fun k : Fin 100 => k.val < a) (Done J) ∗ bigSep (Finset.univ.filter fun k : Fin 100 => b ≤ k.val) (Todo J))

/-- The subcore may wait for its own transfers, and owes what it owed: its waits only added transfers' entries. -/
def Duty (O : CellTallies nD τ sig (HIx 1)) (W : Waits sig (HIx 1)) : sProp 𝕄 :=
  iprop(Transfers.MayWaits J.thr (default : HIx 1) O ∗ ∃ W', ⌜∀ p ∈ W', p ∈ W ∨ p.2 = none⌝ ∗ owes J.thr O W')

theorem duty_insert {O : CellTallies nD τ sig (HIx 1)} {W W' : Waits sig (HIx 1)} (sem : DmaSem sig) (hW' : ∀ p ∈ W', p ∈ W ∨ p.2 = none) :
    iprop(Transfers.MayWaits J.thr (default : HIx 1) O ∗ owes J.thr O (insert (SemLoc.dma sem, (default : HIx 1)) W'))
      ⊢ (iprop(Transfers.MayWaits J.thr (default : HIx 1) O ∗ ∃ W', ⌜∀ p ∈ W', p ∈ W ∨ p.2 = none⌝ ∗ owes J.thr O W') : sProp 𝕄) := by
  iintro ⟨HM, HO⟩
  isplitl [HM]; · iexact HM
  iexists (insert (SemLoc.dma sem, default) W')
  isplitr
  · ipureintro
    intro p hp
    rcases Finset.mem_insert.mp hp with rfl | hp
    · exact .inr rfl
    · exact hW' p hp
  · iexact HO

/-! ## The chunks -/

theorem chunks_take {a b : ℕ} (hk : k.val = b) : (Chunks J a b : sProp 𝕄) ⊢ iprop(Todo J k ∗ Chunks J a (b + 1)) := by
  have hs : (Finset.univ.filter fun k : Fin 100 => b ≤ k.val) = insert k (Finset.univ.filter fun k : Fin 100 => b + 1 ≤ k.val) := by
    ext i
    simp only [Finset.mem_filter, Finset.mem_univ, Finset.mem_insert, Fin.ext_iff, _root_.true_and]
    omega
  have hn : k ∉ (Finset.univ.filter fun k : Fin 100 => b + 1 ≤ k.val) := by
    simp only [Finset.mem_filter, not_and]; omega
  unfold Chunks
  rw [hs]
  iintro ⟨Hd, Ht⟩
  ihave Ht := Entails.of_eq (show _ = iprop(Todo J k ∗ bigSep (Finset.univ.filter fun k : Fin 100 => b + 1 ≤ k.val) (Todo J)) from BI.bigSep_insert hn) $$ Ht
  icases Ht with ⟨H, Ht⟩
  isplitl [H]; · iexact H
  isplitl [Hd] <;> iassumption

theorem chunks_put {a b : ℕ} (hk : k.val = a) : iprop(Done J k ∗ Chunks J a b) ⊢ (Chunks J (a + 1) b : sProp 𝕄) := by
  have hs : (Finset.univ.filter fun k : Fin 100 => k.val < a + 1) = insert k (Finset.univ.filter fun k : Fin 100 => k.val < a) := by
    ext i
    simp only [Finset.mem_filter, Finset.mem_univ, Finset.mem_insert, Fin.ext_iff, _root_.true_and]
    omega
  have hn : k ∉ (Finset.univ.filter fun k : Fin 100 => k.val < a) := by
    simp only [Finset.mem_filter, not_and]; omega
  unfold Chunks
  rw [hs]
  iintro ⟨H, Hd, Ht⟩
  isplitr [Ht]
  · iapply Entails.of_eq (show iprop(Done J k ∗ bigSep (Finset.univ.filter fun k : Fin 100 => k.val < a) (Done J)) = _ from (BI.bigSep_insert hn).symm)
    isplitl [H] <;> iassumption
  · iexact Ht

/-! ## What is borrowed, and the halves -/

theorem lent_split (h : Fin 2) :
    (Lent J s h : sProp 𝕄) ⊣⊢ iprop((tabAll.view.loc J.thr ↦[tabAll.view.set]{s.q h} J.tab)
      ∗ ((words k h).view.loc J.thr ↦[(words k h).view.set]{s.p h} J.list) ∗ Left J s k h) := by
  have ht := pointsTo_split_subset (Ix := HIx 1) (Name := ℕ) (U := UU) (Lvl := ℕ) (ℓ := tabM.view.loc J.thr) (q := s.q h) (f := J.tab)
    (Finset.subset_univ tabAll.view.set)
  have hw := pointsTo_split_subset (Ix := HIx 1) (Name := ℕ) (U := UU) (Lvl := ℕ) (ℓ := ixM.view.loc J.thr) (q := s.p h) (f := J.list)
    (Finset.subset_univ (words k h).view.set)
  unfold Lent Left
  constructor
  · iintro ⟨Ht, Hw⟩
    ihave Ht := ht.1 $$ Ht
    icases Ht with ⟨Ht, Htr⟩
    ihave Hw := hw.1 $$ Hw
    icases Hw with ⟨Hw, Hwr⟩
    isplitl [Ht]; · iexact Ht
    isplitl [Hw]; · iexact Hw
    isplitl [Htr] <;> iassumption
  · iintro ⟨Ht, Hw, Htr, Hwr⟩
    isplitl [Ht Htr]
    · iapply ht.2
      isplitl [Ht] <;> iassumption
    · iapply hw.2
      isplitl [Hw] <;> iassumption

theorem halves_split (f : Buf (Elt F) (s.buf.view.loc J.thr)) :
    (s.buf.view.loc J.thr ↦[s.buf.view.set]{fullShare} f : sProp 𝕄)
      ⊢ iprop((s.buf.view.loc J.thr ↦[(half s.buf 0).view.set]{fullShare} f) ∗ (s.buf.view.loc J.thr ↦[(half s.buf 1).view.set]{fullShare} f)) := by
  rw [(half_union s.buf).1]
  exact (pointsTo_union (half_union s.buf).2).1

/-- The halves written with the halves of some rows are the buffer holding the rows. -/
theorem halves_join (fd : Buf (Elt F) (s.buf.view.loc J.thr)) (w : Fin 2 → S128x128.Idx → Elt F .f32) (W : S256x128.Idx → Elt F .f32)
    (hw : ∀ h y, w h y = W ((halfRect h).emb y)) :
    iprop((s.buf.view.loc J.thr ↦[(half s.buf 0).view.set]{fullShare} ((half s.buf 0).view.write (Elt F) fd (w 0) Finset.univ))
        ∗ (s.buf.view.loc J.thr ↦[(half s.buf 1).view.set]{fullShare} ((half s.buf 1).view.write (Elt F) fd (w 1) Finset.univ)))
      ⊢ (s.buf.view.loc J.thr ↦[s.buf.view.set]{fullShare} (s.buf.view.write (Elt F) fd W Finset.univ) : sProp 𝕄) := by
  have hc : ∀ h, ∀ i ∈ (half s.buf h).view.set, (half s.buf h).view.write (Elt F) fd (w h) Finset.univ i = s.buf.view.write (Elt F) fd W Finset.univ i := by
    intro h i hi
    obtain ⟨y, -, rfl⟩ := Finset.mem_map.mp hi
    rw [View.write_emb_of_mem (v := (half s.buf h).view) fd (w h) (Finset.mem_univ y)]
    refine Eq.trans ?_ (View.write_emb_of_mem (v := s.buf.view) fd W (Finset.mem_univ ((halfRect h).emb y))).symm
    rw [hw h y]
  iintro ⟨H0, H1⟩
  ihave H0 := Entails.of_eq (pointsTo_congr (ℓ := s.buf.view.loc J.thr) (q := fullShare) (hc 0)) $$ H0
  ihave H1 := Entails.of_eq (pointsTo_congr (ℓ := s.buf.view.loc J.thr) (q := fullShare) (hc 1)) $$ H1
  rw [(half_union s.buf).1]
  iapply (pointsTo_union (half_union s.buf).2).2
  isplitl [H0] <;> iassumption

/-! ## The operations -/

variable [FloatOps F] {Q : PUnit → sProp (MT nD τ sig (HIx 1) (Elt F) ℕ UU ℕ)}

/-- The gather of the first half of chunk `k`. -/
theorem wp_issue0 {off : Fin 1 → ℕ} {inb : ∀ a, off a + S128.size a ≤ S25600.size a} (hoff : off = ![256 * k.val + 128 * (0 : Fin 2).val]) :
    Idle J s
      ⊢ iprop((Gath1 J s k -∗ Q ⟨⟩)
          -∗ wp frame (wpE (defs₀ (F := F)) Variants.none J.thr none) Set.univ
              (SparseCore.enqueueIndirectGather rfl tabAll
                (s.buf.slice (Rect.unit (s := S256x128) ![0, 0] S128x128.size inb_S256x128_S128x128_0_0) (fun _ => rfl)) gathers_S1000002x128_S128x128
                (ixM.slice (Rect.unit (s := S25600) off S128.size inb) (fun _ => rfl)) rfl s.g.sem (View.wordExact_bits rfl) rfl (Or.inl rfl)) Q) := by
  subst hoff
  unfold Idle Rows Kit
  iintro ⟨⟨%f, Hb⟩, ⟨Hl, Hl1, Hv⟩, Hfree⟩ HQ
  ihave Hb := halves_split J s f $$ Hb
  icases Hb with ⟨Hb, Hb1⟩
  ihave Hl := (lent_split J s k 0).1 $$ Hl
  icases Hl with ⟨Ht, Hw, Hleft⟩
  imod (Transfers.batch_alloc' EC J.thr (sm := .dma s.g.sem) (default : HIx 1) 4096 (both J s k f) (E := Set.univ)) $$ Hv with Hbat
  iapply (wp_gatherIssue (k := 0) (u := 0) (D := both J s k f) EC Variants.none J.thr none (dst := half s.buf 0) (offs := words k 0) (default : HIx 1) 4096
    (row_credit s.buf 0) rows_pos (words_inRange J.hin 0) (by decide) (Nat.zero_le _) (fun j => ?_)) $$ [Ht Hb Hw Hbat]
  · have hj : (⟨0 + j.val, by have h : j.val < nr := j.isLt; omega⟩ : Fin (nr + nr)) = Fin.castAdd nr j := Fin.ext (Nat.zero_add _)
    exact (congrArg (both J s k f) hj).trans (Fin.addCases_left j)
  · isplitl [Ht]; · iexact Ht
    isplitl [Hb]; · iexact Hb
    isplitl [Hw]; · iexact Hw
    iexact Hbat
  iintro Hbat
  iapply HQ
  unfold Gath1
  isplitr [Hfree]
  swap; · iexact Hfree
  iexists f
  isplitl [Hbat]; · iexact Hbat
  isplitl [Hb1]; · iexact Hb1
  isplitl [Hleft] <;> iassumption

/-- The gather of its second half. -/
theorem wp_issue1 {off : Fin 1 → ℕ} {inb : ∀ a, off a + S128.size a ≤ S25600.size a} (hoff : off = ![256 * k.val + 128 * (1 : Fin 2).val]) :
    (Gath1 J s k : sProp 𝕄)
      ⊢ iprop((Gath2 J s k -∗ Q ⟨⟩)
          -∗ wp frame (wpE (defs₀ (F := F)) Variants.none J.thr none) Set.univ
              (SparseCore.enqueueIndirectGather rfl tabAll
                (s.buf.slice (Rect.unit (s := S256x128) ![128, 0] S128x128.size inb_S256x128_S128x128_128_0) (fun _ => rfl)) gathers_S1000002x128_S128x128
                (ixM.slice (Rect.unit (s := S25600) off S128.size inb) (fun _ => rfl)) rfl s.g.sem (View.wordExact_bits rfl) rfl (Or.inl rfl)) Q) := by
  subst hoff
  unfold Gath1
  iintro ⟨⟨%f, Hbat, Hb, Hleft, Hl⟩, Hfree⟩ HQ
  ihave Hl := (lent_split J s k 1).1 $$ Hl
  icases Hl with ⟨Ht, Hw, Hleft1⟩
  iapply (wp_gatherIssue (k := 0 + nr) (u := 0) (D := both J s k f) EC Variants.none J.thr none (dst := half s.buf 1) (offs := words k 1) (default : HIx 1) 4096
    (row_credit s.buf 1) rows_pos (words_inRange J.hin 1) (by decide) (Nat.zero_le _) (fun j => ?_)) $$ [Ht Hb Hw Hbat]
  · have hj : (⟨0 + nr + j.val, by have h : j.val < nr := j.isLt; omega⟩ : Fin (nr + nr)) = Fin.natAdd nr j := Fin.ext (congrArg (· + j.val) (Nat.zero_add nr))
    exact (congrArg (both J s k f) hj).trans (Fin.addCases_right j)
  · isplitl [Ht]; · iexact Ht
    isplitl [Hb]; · iexact Hb
    isplitl [Hw]; · iexact Hw
    iexact Hbat
  iintro Hbat
  iapply HQ
  unfold Gath2
  isplitr [Hfree]
  swap; · iexact Hfree
  iexists f
  isplitl [Hbat]; · iexact Hbat
  isplitl [Hleft] <;> iassumption

/-- The first wait for the gathers of chunk `k`: neither half is known to have arrived. -/
theorem wp_waitA {O : CellTallies nD τ sig (HIx 1)} {W : Waits sig (HIx 1)}
    {hr : (s.buf.slice (Rect.unit (s := S256x128) ![0, 0] S128x128.size inb_S256x128_S128x128_0_0) (fun _ => rfl)).view.WordExact} :
    iprop(Gath2 J s k ∗ Duty J O W)
      ⊢ iprop((iprop(Gath3 J s k ∗ Duty J O W) -∗ Q ⟨⟩)
          -∗ wp frame (wpE (defs₀ (F := F)) Variants.none J.thr none) Set.univ
              (SparseCore.waitIndirectGather s.g.sem tabAll
                (s.buf.slice (Rect.unit (s := S256x128) ![0, 0] S128x128.size inb_S256x128_S128x128_0_0) (fun _ => rfl)) (View.wordExact_bits rfl) hr) Q) := by
  unfold Gath2 Duty
  iintro ⟨⟨⟨%f, Hbat, Hl0, Hl1⟩, Hfree⟩, #HM, %W', %hW', HO⟩ HQ
  iapply (Transfers.wp_waitBatchMulO EC Variants.none J.thr none (default : HIx 1) 128 (half_credit s.buf 0)
    (D := both J s k f) (j := nr + nr) (u := 0) (by decide)) $$ [Hbat HO]
  · isplitl [Hbat]; · iexact Hbat
    isplitl [HO]; · iexact HO
    iapply (Transfers.MayWaits.elim (SemLoc.dma s.g.sem)) $$ HM
  iintro ⟨Hbat, HO⟩
  rw [wp_ret]; imodintro
  iapply HQ
  isplitr [HO]
  · unfold Gath3
    isplitr [Hfree]
    swap; · iexact Hfree
    iexists f
    isplitl [Hbat]; · iexact Hbat
    isplitl [Hl0] <;> iassumption
  · iapply (duty_insert J s.g.sem hW')
    isplitr <;> iassumption

/-- The second wait: the buffer holds the chunk's rows of the table, and what was borrowed is back. -/
theorem wp_waitB {O : CellTallies nD τ sig (HIx 1)} {W : Waits sig (HIx 1)}
    {hr : (s.buf.slice (Rect.unit (s := S256x128) ![128, 0] S128x128.size inb_S256x128_S128x128_128_0) (fun _ => rfl)).view.WordExact} :
    iprop(Gath3 J s k ∗ Duty J O W)
      ⊢ iprop((iprop(Loaded J s k ∗ Duty J O W) -∗ Q ⟨⟩)
          -∗ wp frame (wpE (defs₀ (F := F)) Variants.none J.thr none) Set.univ
              (SparseCore.waitIndirectGather s.g.sem tabAll
                (s.buf.slice (Rect.unit (s := S256x128) ![128, 0] S128x128.size inb_S256x128_S128x128_128_0) (fun _ => rfl)) (View.wordExact_bits rfl) hr) Q) := by
  unfold Gath3 Duty
  iintro ⟨⟨⟨%f, Hbat, Hl0, Hl1⟩, Hfree⟩, #HM, %W', %hW', HO⟩ HQ
  iapply (Transfers.wp_waitBatchAllO EC Variants.none J.thr none (default : HIx 1) (N := 4096) (half_credit s.buf 1) (by decide)
    (D := both J s k f) (u := 0 + 128 * 4096) (by decide)) $$ [Hbat HO]
  · isplitl [Hbat]; · iexact Hbat
    isplitl [HO]; · iexact HO
    iapply (Transfers.MayWaits.elim (SemLoc.dma s.g.sem)) $$ HM
  iintro ⟨HD, Hv, HO⟩
  rw [wp_ret]; imodintro
  iapply HQ
  unfold both
  ihave HD := Entails.of_eq (bigSep_two (half1 J s k 0 f) (half1 J s k 1 f)) $$ HD
  icases HD with ⟨H0, H1⟩
  ihave H0 := half1_all J s k 0 f $$ H0
  ihave H1 := half1_all J s k 1 f $$ H1
  icases H0 with ⟨Hb0, Hw0, Ht0⟩
  icases H1 with ⟨Hb1, Hw1, Ht1⟩
  isplitr [HO]
  · unfold Loaded
    isplitl [Hb0 Hb1]
    · unfold Full
      iexists (s.buf.view.write (Elt F) f (chunkRows J.L k J.tab J.ids) Finset.univ)
      isplitr
      · ipureintro; exact View.read_write_univ ..
      iapply (halves_join J s f (fun h => SparseCore.gatherPayload gathers_S1000002x128_S128x128 (tabAll.view.read (Elt F) J.tab)
        (SparseCore.rows ((words k h).view.read (Elt F) J.list) words_numel (words_inRange J.hin h))) (chunkRows J.L k J.tab J.ids) (fun h y => gather_rows J.hin h y))
      isplitl [Hb0] <;> iassumption
    isplitr [Hfree]
    swap; · iexact Hfree
    unfold Kit
    isplitl [Hl0 Hw0 Ht0]
    · iapply (lent_split J s k 0).2
      isplitl [Ht0]; · iexact Ht0
      isplitl [Hw0] <;> iassumption
    isplitl [Hl1 Hw1 Ht1]
    · iapply (lent_split J s k 1).2
      isplitl [Ht1]; · iexact Ht1
      isplitl [Hw1] <;> iassumption
    iexact Hv
  · iapply (duty_insert J s.g.sem hW')
    isplitr <;> iassumption

/-- The copy of the buffer out to chunk `k`'s rows of the result. -/
theorem wp_put {a b : ℕ} {off : Fin 2 → ℕ} {inb : ∀ a, off a + S256x128.size a ≤ S819200x128.size a} (hoff : off = ![base J.L + 256 * k.val, 0]) (hk : k.val = b)
    {hsrc : s.buf.view.WordExact} {hdst : (outM.slice (Rect.unit (s := S819200x128) off S256x128.size inb) (fun _ => rfl)).view.WordExact}
    {hsem : DmaTarget.Typed (nD := nD) (p := J.thr.2) .vmem (SemLoc.dma s.w.sem) (.here (outM.slice (Rect.unit (s := S819200x128) off S256x128.size inb) (fun _ => rfl)))} :
    iprop(Loaded J s k ∗ Chunks J a b)
      ⊢ iprop((iprop(Put J s k ∗ Chunks J a (b + 1)) -∗ Q ⟨⟩)
          -∗ wp frame (wpE (defs₀ (F := F)) Variants.none J.thr none) Set.univ
              (Prog.lift (.enqueueDma s.buf (.here (outM.slice (Rect.unit (s := S819200x128) off S256x128.size inb) (fun _ => rfl))) (.dma s.w.sem) hsrc hdst hsem)) Q) := by
  subst hoff
  unfold Loaded Full Free
  iintro ⟨⟨⟨%f, %hf, Hb⟩, Hkit, Hv⟩, Hc⟩ HQ
  ihave Hc := chunks_take J k hk $$ Hc
  unfold Todo
  icases Hc with ⟨⟨%g, Ho⟩, Hc⟩
  iapply (Transfers.wp_dmaLocal EC Variants.none J.thr none (dst := chunk J.L k) (sm := .dma s.w.sem) (default : HIx 1) 1048576
    (chunk_credit _ _) (by decide) (Finset.Subset.refl _)) $$ [Hb Hv Ho]
  · isplitl [Hb]; · iexact Hb
    isplitl [Ho]; · iexact Ho
    iexact Hv
  iintro Hf
  rw [wp_ret]; imodintro
  iapply HQ
  isplitr [Hc]
  swap; · iexact Hc
  unfold Put
  isplitr [Hkit]
  swap; · iexact Hkit
  iapply (Transfers.Flight_mono EC J.thr (?_ : _ ⊢ _)) $$ Hf
  unfold Rows Done
  iintro ⟨Ho, Hb⟩
  isplitl [Ho]
  · iapply (Entails.of_eq (pointsTo_congr (ℓ := (chunk J.L k).view.loc J.thr) (q := fullShare) fun i hi => ?_)) $$ Ho
    obtain ⟨y, -, rfl⟩ := Finset.mem_map.mp hi
    rw [View.write_emb_of_mem (v := (chunk J.L k).view) _ _ (Finset.mem_univ y)]
    exact congrFun hf y
  · iexists f; iexact Hb

/-- The wait for it, named by any 256 rows of the result. -/
theorem wp_putWait {off : Fin 2 → ℕ} {inb : ∀ a, off a + S256x128.size a ≤ S819200x128.size a} {O : CellTallies nD τ sig (HIx 1)} {W : Waits sig (HIx 1)}
    {hsrc : s.buf.view.WordExact} {hdst : (outM.slice (Rect.unit (s := S819200x128) off S256x128.size inb) (fun _ => rfl)).view.WordExact} :
    iprop(Put J s k ∗ Duty J O W)
      ⊢ iprop((iprop(Idle J s ∗ Done J k ∗ Duty J O W) -∗ Q ⟨⟩)
          -∗ wp frame (wpE (defs₀ (F := F)) Variants.none J.thr none) Set.univ
              (Prog.lift (.waitDma2 s.w.sem s.buf (outM.slice (Rect.unit (s := S819200x128) off S256x128.size inb) (fun _ => rfl)) hsrc hdst)) Q) := by
  unfold Put Duty
  iintro ⟨⟨Hf, Hkit⟩, #HM, %W', %hW', HO⟩ HQ
  iapply (Transfers.wp_waitLocalO EC Variants.none J.thr none (default : HIx 1) (chunk_credit off inb)) $$ [Hf HO]
  · isplitl [Hf]; · iexact Hf
    isplitl [HO]; · iexact HO
    iapply (Transfers.MayWaits.elim (SemLoc.dma s.w.sem)) $$ HM
  iintro ⟨⟨Hd, Hb⟩, Hv, HO⟩
  rw [wp_ret]; imodintro
  iapply HQ
  isplitl [Hb Hkit Hv]
  · unfold Idle Free
    isplitl [Hb]; · iexact Hb
    isplitl [Hkit] <;> iassumption
  isplitl [Hd]; · iexact Hd
  iapply (duty_insert J s.w.sem hW')
  isplitr <;> iassumption

/-! ## Two at a time -/

/-- The gathers of both halves. -/
theorem wp_fire {off off' : Fin 1 → ℕ} {inb : ∀ a, off a + S128.size a ≤ S25600.size a} {inb' : ∀ a, off' a + S128.size a ≤ S25600.size a}
    (hoff : off = ![256 * k.val + 128 * (0 : Fin 2).val]) (hoff' : off' = ![256 * k.val + 128 * (1 : Fin 2).val]) :
    Idle J s
      ⊢ iprop((Gath2 J s k -∗ Q ⟨⟩)
          -∗ wp frame (wpE (defs₀ (F := F)) Variants.none J.thr none) Set.univ
              (SparseCore.enqueueIndirectGather rfl tabAll
                (s.buf.slice (Rect.unit (s := S256x128) ![0, 0] S128x128.size inb_S256x128_S128x128_0_0) (fun _ => rfl)) gathers_S1000002x128_S128x128
                (ixM.slice (Rect.unit (s := S25600) off S128.size inb) (fun _ => rfl)) rfl s.g.sem (View.wordExact_bits rfl) rfl (Or.inl rfl)) fun _ =>
            wp frame (wpE (defs₀ (F := F)) Variants.none J.thr none) Set.univ
              (SparseCore.enqueueIndirectGather rfl tabAll
                (s.buf.slice (Rect.unit (s := S256x128) ![128, 0] S128x128.size inb_S256x128_S128x128_128_0) (fun _ => rfl)) gathers_S1000002x128_S128x128
                (ixM.slice (Rect.unit (s := S25600) off' S128.size inb') (fun _ => rfl)) rfl s.g.sem (View.wordExact_bits rfl) rfl (Or.inl rfl)) Q) := by
  iintro H HQ
  iapply (wp_issue0 J s k hoff) $$ H
  iintro H
  iapply (wp_issue1 J s k hoff') $$ H
  iexact HQ

/-- The two waits for them. -/
theorem wp_drain {O : CellTallies nD τ sig (HIx 1)} {W : Waits sig (HIx 1)}
    {hr : (s.buf.slice (Rect.unit (s := S256x128) ![0, 0] S128x128.size inb_S256x128_S128x128_0_0) (fun _ => rfl)).view.WordExact}
    {hr' : (s.buf.slice (Rect.unit (s := S256x128) ![128, 0] S128x128.size inb_S256x128_S128x128_128_0) (fun _ => rfl)).view.WordExact} :
    iprop(Gath2 J s k ∗ Duty J O W)
      ⊢ iprop((iprop(Loaded J s k ∗ Duty J O W) -∗ Q ⟨⟩)
          -∗ wp frame (wpE (defs₀ (F := F)) Variants.none J.thr none) Set.univ
              (SparseCore.waitIndirectGather s.g.sem tabAll
                (s.buf.slice (Rect.unit (s := S256x128) ![0, 0] S128x128.size inb_S256x128_S128x128_0_0) (fun _ => rfl)) (View.wordExact_bits rfl) hr) fun _ =>
            wp frame (wpE (defs₀ (F := F)) Variants.none J.thr none) Set.univ
              (SparseCore.waitIndirectGather s.g.sem tabAll
                (s.buf.slice (Rect.unit (s := S256x128) ![128, 0] S128x128.size inb_S256x128_S128x128_128_0) (fun _ => rfl)) (View.wordExact_bits rfl) hr') Q) := by
  iintro H HQ
  iapply (wp_waitA J s k) $$ H
  iintro H
  iapply (wp_waitB J s k) $$ H
  iexact HQ

/-- A chunk's copy out waited for, the chunks before it being out. -/
theorem wp_putWaitNext {a b : ℕ} (hk : k.val = a) {off : Fin 2 → ℕ} {inb : ∀ a, off a + S256x128.size a ≤ S819200x128.size a}
    {O : CellTallies nD τ sig (HIx 1)} {W : Waits sig (HIx 1)}
    {hsrc : s.buf.view.WordExact} {hdst : (outM.slice (Rect.unit (s := S819200x128) off S256x128.size inb) (fun _ => rfl)).view.WordExact} :
    iprop(Put J s k ∗ Chunks J a b ∗ Duty J O W)
      ⊢ iprop((iprop(Idle J s ∗ Chunks J (a + 1) b ∗ Duty J O W) -∗ Q ⟨⟩)
          -∗ wp frame (wpE (defs₀ (F := F)) Variants.none J.thr none) Set.univ
              (Prog.lift (.waitDma2 s.w.sem s.buf (outM.slice (Rect.unit (s := S819200x128) off S256x128.size inb) (fun _ => rfl)) hsrc hdst)) Q) := by
  iintro ⟨H, Hc, HD⟩ HQ
  iapply (wp_putWait J s k) $$ [H HD]
  · isplitl [H] <;> iassumption
  iintro ⟨H, Hd, HD⟩
  iapply HQ
  isplitl [H]; · iexact H
  isplitl [Hd Hc]
  · iapply (chunks_put J k hk)
    isplitl [Hd] <;> iassumption
  iexact HD

end Cert.Proof.Gather

end
-- ==== Proof.Tile.lean ====
/-
  One subcore's body. Its rows of the result are 100 chunks of 256, taken in turn by three row buffers `A`, `B`, `C`:
  chunk `n` by the buffer `n` modulo 3. It runs part by part as the program is printed. Each theorem takes the buffers'
  states (`Steps`) before a part to those after; the loop's invariant, before trip `t`, is: `A` gathering chunk `3t + 3`,
  `B` gathering chunk `3t + 4`, the copy out of chunk `3t + 2` from `C` in flight, the chunks before that one out.
-/
module

public import proofs.«01_k».proof.Proof.Steps

@[expose] public section

noncomputable section

namespace Cert.Proof.Gather

open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Streams

variable {F : FTy → Type}

local notation "𝕄" => MT nD τ sig (HIx 1) (Elt F) ℕ UU ℕ

/-- Chunk `n`, of the 100. -/
def ch (n : ℕ) : Fin 100 := Fin.ofNat 100 n

theorem ch_val {n : ℕ} (h : n < 100) : (ch n).val = n := Nat.mod_eq_of_lt h

theorem trips_eq : k0_t1_loop.trips = 31 := by decide

/-! ## Where the slices lie -/

theorem off2_eq (i : grid0.Coords) (r : BitVec 32) (k : Fin 100) (h : r.toNat = 256 * k.val) : k0_off2 i r = ![base i + 256 * k.val, 0] := by
  have hb := base_le i
  have hk := k.isLt
  have h3 : (k0_off3 i 0) = base i := congrFun (k0_off3_eq i) 0
  show (![_, 0] : Fin 2 → ℕ) = _
  congr 1
  refine (BitVec.toNat_add_of_lt ?_).trans ?_
  · rw [h]; change k0_off3 i 0 + _ < _; rw [h3]; omega
  · rw [h]; change k0_off3 i 0 + _ = _; rw [h3]

theorem off5_eq {t r₁ r₂ n : ℕ} {o : Fin 1 → ℕ} (k : Fin 100) (h : Fin 2) (ho : o = ![768 * t + 256 * r₁ + 128 * r₂ + 1280]) (hk : k.val = n) (hn : n = 3 * t + r₁ + 5)
    (hh : h.val = r₂) : o = ![256 * k.val + 128 * h.val] := by
  rw [ho, hk, hh]; congr 1; omega

theorem off6_eq {i : grid0.Coords} {t r n : ℕ} {o : Fin 2 → ℕ} (k : Fin 100) (ho : o = ![51200 * (i 1).val + 25600 * (i 0).val + 768 * t + 256 * r + 768, 0]) (hk : k.val = n)
    (hn : n = 3 * t + r + 3) : o = ![base i + 256 * k.val, 0] := by
  rw [ho, hk]; unfold base; congr 1; omega

/-! ## The parts -/

variable (J : Job F) (A B C : Slot) (r0 : DmaSems sig S_)
variable (h2 : tabM.IsWhole) (h3 : lstM.IsWhole) (h4 : outM.IsWhole) (h5 : ixM.IsWhole) (hA : A.buf.IsWhole) (hB : B.buf.IsWhole) (hC : C.buf.IsWhole)
variable [FloatOps F] (O : CellTallies nD τ sig (HIx 1)) (W : Waits sig (HIx 1))

/-! ### The loop's -/

/-- `C`'s last chunk is out and its next is being gathered; `A`'s chunk has arrived. -/
theorem wp_part1 (v2 u u' : BitVec 32) (t : Fin k0_t1_loop.trips) {Q : BitVec 32 → sProp 𝕄} :
    iprop(Put J C (ch (3 * t.val + 2)) ∗ Gath2 J A (ch (3 * t.val + 3)) ∗ Chunks J (3 * t.val + 2) (3 * t.val + 3) ∗ Duty J O W)
      ⊢ iprop((∀ v, iprop(Gath2 J C (ch (3 * t.val + 5)) ∗ Loaded J A (ch (3 * t.val + 3)) ∗ Chunks J (3 * t.val + 3) (3 * t.val + 3) ∗ Duty J O W) -∗ Q v)
          -∗ wp frame (wpE (defs₀ (F := F)) Variants.none J.thr none) Set.univ
              (k0_part1 (F := F) J.L tabM h2 lstM h3 outM h4 ixM h5 A.buf hA B.buf hB C.buf hC A.g B.g C.g A.w B.w C.w r0 v2 u u' t) Q) := by
  have ht : t.val < 31 := trips_eq ▸ t.isLt
  simp only [k0_part1_eq_skeleton, k0_part1_skel, wp_bind, wp_pure]
  iintro ⟨HC, HA, Hc, HD⟩ HQ
  iapply (wp_putWaitNext J C (ch (3 * t.val + 2)) (ch_val (by omega))) $$ [HC Hc HD]
  · isplitl [HC]; · iexact HC
    isplitl [Hc]; · iexact Hc
    iexact HD
  iintro ⟨HC, Hc, HD⟩
  iapply (wp_fire J C (ch (3 * t.val + 5)) (off5_eq (ch (3 * t.val + 5)) 0 (k0_off5_eq t 0 0) (ch_val (by omega)) rfl rfl)
      (off5_eq (ch (3 * t.val + 5)) 1 (k0_off5_eq t 0 1) (ch_val (by omega)) rfl rfl)) $$ HC
  iintro HC
  iapply (wp_drain J A (ch (3 * t.val + 3))) $$ [HA HD]
  · isplitl [HA]; · iexact HA
    iexact HD
  iintro ⟨HA, HD⟩
  imodintro
  iapply HQ
  isplitl [HC]; · iexact HC
  isplitl [HA]; · iexact HA
  isplitl [Hc]; · iexact Hc
  iexact HD

/-- `A`'s chunk goes out and its next is being gathered; `B`'s has arrived. -/
theorem wp_part2 (v2 v : BitVec 32) (t : Fin k0_t1_loop.trips) {Q : PUnit → sProp 𝕄} :
    iprop(Loaded J A (ch (3 * t.val + 3)) ∗ Gath2 J B (ch (3 * t.val + 4)) ∗ Chunks J (3 * t.val + 3) (3 * t.val + 3) ∗ Duty J O W)
      ⊢ iprop((iprop(Gath2 J A (ch (3 * t.val + 6)) ∗ Loaded J B (ch (3 * t.val + 4)) ∗ Chunks J (3 * t.val + 4) (3 * t.val + 4) ∗ Duty J O W) -∗ Q ⟨⟩)
          -∗ wp frame (wpE (defs₀ (F := F)) Variants.none J.thr none) Set.univ
              (k0_part2 (F := F) J.L tabM h2 lstM h3 outM h4 ixM h5 A.buf hA B.buf hB C.buf hC A.g B.g C.g A.w B.w C.w r0 v2 t v) Q) := by
  have ht : t.val < 31 := trips_eq ▸ t.isLt
  simp only [k0_part2_eq_skeleton, k0_part2_skel, wp_bind, wp_pure]
  iintro ⟨HA, HB, Hc, HD⟩ HQ
  iapply (wp_put J A (ch (3 * t.val + 3)) (off6_eq (ch (3 * t.val + 3)) (k0_off6_eq J.L t 0) (ch_val (by omega)) rfl) (ch_val (by omega))) $$ [HA Hc]
  · isplitl [HA]; · iexact HA
    iexact Hc
  iintro ⟨HA, Hc⟩
  iapply (wp_putWaitNext J A (ch (3 * t.val + 3)) (ch_val (by omega))) $$ [HA Hc HD]
  · isplitl [HA]; · iexact HA
    isplitl [Hc]; · iexact Hc
    iexact HD
  iintro ⟨HA, Hc, HD⟩
  iapply (wp_fire J A (ch (3 * t.val + 6)) (off5_eq (ch (3 * t.val + 6)) 0 (k0_off5_eq t 1 0) (ch_val (by omega)) rfl rfl)
      (off5_eq (ch (3 * t.val + 6)) 1 (k0_off5_eq t 1 1) (ch_val (by omega)) rfl rfl)) $$ HA
  iintro HA
  iapply (wp_drain J B (ch (3 * t.val + 4))) $$ [HB HD]
  · isplitl [HB]; · iexact HB
    iexact HD
  iintro ⟨HB, HD⟩
  imodintro
  iapply HQ
  isplitl [HA]; · iexact HA
  isplitl [HB]; · iexact HB
  isplitl [Hc]; · iexact Hc
  iexact HD

/-- `B`'s chunk goes out and its next is being gathered; `C`'s has arrived. -/
theorem wp_part3 (v2 v : BitVec 32) (t : Fin k0_t1_loop.trips) {Q : PUnit → sProp 𝕄} :
    iprop(Loaded J B (ch (3 * t.val + 4)) ∗ Gath2 J C (ch (3 * t.val + 5)) ∗ Chunks J (3 * t.val + 4) (3 * t.val + 4) ∗ Duty J O W)
      ⊢ iprop((iprop(Gath2 J B (ch (3 * t.val + 7)) ∗ Loaded J C (ch (3 * t.val + 5)) ∗ Chunks J (3 * t.val + 5) (3 * t.val + 5) ∗ Duty J O W) -∗ Q ⟨⟩)
          -∗ wp frame (wpE (defs₀ (F := F)) Variants.none J.thr none) Set.univ
              (k0_part3 (F := F) J.L tabM h2 lstM h3 outM h4 ixM h5 A.buf hA B.buf hB C.buf hC A.g B.g C.g A.w B.w C.w r0 v2 t v) Q) := by
  have ht : t.val < 31 := trips_eq ▸ t.isLt
  simp only [k0_part3_eq_skeleton, k0_part3_skel, wp_bind, wp_pure]
  iintro ⟨HB, HC, Hc, HD⟩ HQ
  iapply (wp_put J B (ch (3 * t.val + 4)) (off6_eq (ch (3 * t.val + 4)) (k0_off6_eq J.L t 1) (ch_val (by omega)) rfl) (ch_val (by omega))) $$ [HB Hc]
  · isplitl [HB]; · iexact HB
    iexact Hc
  iintro ⟨HB, Hc⟩
  iapply (wp_putWaitNext J B (ch (3 * t.val + 4)) (ch_val (by omega))) $$ [HB Hc HD]
  · isplitl [HB]; · iexact HB
    isplitl [Hc]; · iexact Hc
    iexact HD
  iintro ⟨HB, Hc, HD⟩
  iapply (wp_fire J B (ch (3 * t.val + 7)) (off5_eq (ch (3 * t.val + 7)) 0 (k0_off5_eq t 2 0) (ch_val (by omega)) rfl rfl)
      (off5_eq (ch (3 * t.val + 7)) 1 (k0_off5_eq t 2 1) (ch_val (by omega)) rfl rfl)) $$ HB
  iintro HB
  iapply (wp_drain J C (ch (3 * t.val + 5))) $$ [HC HD]
  · isplitl [HC]; · iexact HC
    iexact HD
  iintro ⟨HC, HD⟩
  imodintro
  iapply HQ
  isplitl [HB]; · iexact HB
  isplitl [HC]; · iexact HC
  isplitl [Hc]; · iexact Hc
  iexact HD

/-- What holds before trip `t`. -/
def Inv (t : ℕ) : sProp 𝕄 :=
  iprop(Gath2 J A (ch (3 * t + 3)) ∗ Gath2 J B (ch (3 * t + 4)) ∗ Put J C (ch (3 * t + 2)) ∗ Chunks J (3 * t + 2) (3 * t + 3) ∗ Duty J O W)

/-- A trip keeps it. -/
theorem trip (v2 : BitVec 32) (t : Fin k0_t1_loop.trips) (x : Unit) :
    (Inv J A B C O W t.val : sProp 𝕄) ⊢ wp frame (wpE (defs₀ (F := F)) Variants.none J.thr none) Set.univ
      (k0_t1_body (F := F) J.L tabM h2 lstM h3 outM h4 ixM h5 A.buf hA B.buf hB C.buf hC A.g B.g C.g A.w B.w C.w r0 v2 t x) fun _ => Inv J A B C O W (t.val + 1) := by
  have ht : t.val < 31 := trips_eq ▸ t.isLt
  have e : 3 * (t.val + 1) = 3 * t.val + 3 := by omega
  simp only [k0_t1_body, wp_bind, wp_pure, Inv, e, Nat.add_assoc, Nat.reduceAdd]
  iintro ⟨HA, HB, HC, Hc, HD⟩
  iapply (wp_part1 J A B C r0 h2 h3 h4 h5 hA hB hC O W v2 1#32 1#32 t) $$ [HC HA Hc HD]
  · isplitl [HC]; · iexact HC
    isplitl [HA]; · iexact HA
    isplitl [Hc]; · iexact Hc
    iexact HD
  iintro %v ⟨HC, HA, Hc, HD⟩
  iapply (wp_part2 J A B C r0 h2 h3 h4 h5 hA hB hC O W v2 v t) $$ [HA HB Hc HD]
  · isplitl [HA]; · iexact HA
    isplitl [HB]; · iexact HB
    isplitl [Hc]; · iexact Hc
    iexact HD
  iintro ⟨HA, HB, Hc, HD⟩
  iapply (wp_part3 J A B C r0 h2 h3 h4 h5 hA hB hC O W v2 v t) $$ [HB HC Hc HD]
  · isplitl [HB]; · iexact HB
    isplitl [HC]; · iexact HC
    isplitl [Hc]; · iexact Hc
    iexact HD
  iintro ⟨HB, HC, Hc, HD⟩
  iapply (wp_put J C (ch (3 * t.val + 5)) (off6_eq (ch (3 * t.val + 5)) (k0_off6_eq J.L t 2) (ch_val (by omega)) rfl) (ch_val (by omega))) $$ [HC Hc]
  · isplitl [HC]; · iexact HC
    iexact Hc
  iintro ⟨HC, Hc⟩
  imodintro
  isplitl [HA]; · iexact HA
  isplitl [HB]; · iexact HB
  isplitl [HC]; · iexact HC
  isplitl [Hc] <;> iassumption

/-! ### The rest -/

/-- The credit of the copy of the list. -/
theorem list_credit : ixM.view.dmaCredit = 819200 := by
  have h : ∀ {s : Shape} {n : ℕ} (_ : s.numel = n) {t : Table} {b : Fin (sig.nBuf t)}, sig.dmaCredit .scVector t b s .i32 = n * 32 := by
    intro s n h; subst h; intros; rfl
  exact h (n := 25600) rfl

variable (s : Slot)

/-- A buffer's two shares of the list; all else an idle buffer holds. -/
def IxOf : sProp 𝕄 := iprop((ixM.view.loc J.thr ↦[Finset.univ]{s.p 0} J.list) ∗ (ixM.view.loc J.thr ↦[Finset.univ]{s.p 1} J.list))
def TabOf : sProp 𝕄 := iprop((tabM.view.loc J.thr ↦[Finset.univ]{s.q 0} J.tab) ∗ (tabM.view.loc J.thr ↦[Finset.univ]{s.q 1} J.tab))
def Cold : sProp 𝕄 := iprop(Rows J s ∗ TabOf J s ∗ semVal (J.thr, .dma s.g.sem) 0 ∗ Free J s)

theorem idle_split : (Idle J s : sProp 𝕄) ⊣⊢ iprop(Cold J s ∗ IxOf J s) := by
  unfold Idle Cold IxOf TabOf Kit Lent
  constructor
  · iintro ⟨Hr, ⟨⟨Ht, Hi⟩, ⟨Ht1, Hi1⟩, Hg⟩, Hf⟩
    isplitr [Hi Hi1]
    · isplitl [Hr]; · iexact Hr
      isplitl [Ht Ht1]
      · isplitl [Ht] <;> iassumption
      isplitl [Hg] <;> iassumption
    · isplitl [Hi] <;> iassumption
  · iintro ⟨⟨Hr, ⟨Ht, Ht1⟩, Hg, Hf⟩, Hi, Hi1⟩
    isplitl [Hr]; · iexact Hr
    isplitr [Hf]
    · isplitl [Ht Hi]
      · isplitl [Ht] <;> iassumption
      isplitl [Ht1 Hi1]
      · isplitl [Ht1] <;> iassumption
      iexact Hg
    · iexact Hf

/-- The subcore's part of the flattened `x`. -/
abbrev src (L : grid0.Coords) : Memref sig .scVector .hbm S25600 .i32 :=
  lstM.slice (Rect.unit (s := S819200) (k0_off1 L) S25600.size (k0_off1_inb L)) (fun _ => rfl)

variable (ql : PosShare TreeShare)
  (hix : (ixM.view.loc J.thr ↦[Finset.univ]{fullShare} J.list : sProp (MT nD τ sig (HIx 1) (Elt F) ℕ UU ℕ)) ⊢ iprop(IxOf J A ∗ IxOf J B ∗ IxOf J C))

include hix in
/-- The list copied in; chunks 0 and 1 being gathered, and the first half of chunk 2. -/
theorem wp_part4 {Q : BitVec 32 → sProp 𝕄} :
    iprop(((src J.L).view.loc J.thr ↦[(src J.L).view.set]{ql} J.ids) ∗ (∃ f, ixM.view.loc J.thr ↦[Finset.univ]{fullShare} f) ∗ semVal (J.thr, .dma r0.sem) 0
        ∗ Cold J A ∗ Cold J B ∗ Cold J C ∗ Duty J O W)
      ⊢ iprop((∀ v, iprop(((src J.L).view.loc J.thr ↦[(src J.L).view.set]{ql} J.ids) ∗ semVal (J.thr, .dma r0.sem) 0
            ∗ Gath2 J A (ch 0) ∗ Gath2 J B (ch 1) ∗ Gath1 J C (ch 2) ∗ Duty J O W) -∗ Q v)
          -∗ wp frame (wpE (defs₀ (F := F)) Variants.none J.thr none) Set.univ
              (k0_part4 (F := F) J.L tabM h2 lstM h3 outM h4 ixM h5 A.buf hA B.buf hB C.buf hC A.g B.g C.g A.w B.w C.w r0) Q) := by
  simp only [k0_part4_eq_skeleton, k0_part4_skel, wp_bind, wp_pure]
  iintro ⟨Hs, ⟨%f, Hx⟩, Hr, HA, HB, HC, HD⟩ HQ
  unfold Duty
  icases HD with ⟨#HM, %W', %hW', HO⟩
  iapply (Transfers.wp_dmaLocal EC Variants.none J.thr none (src := src J.L) (dst := ixM) (sm := .dma r0.sem) (default : HIx 1) 819200 list_credit (by decide)
    (Finset.subset_univ _)) $$ [Hs Hx Hr]
  · isplitl [Hs]; · iexact Hs
    isplitl [Hx]; · iexact Hx
    iexact Hr
  iintro Hf
  rw [wp_ret]; imodintro
  iapply (Transfers.wp_waitLocalO EC Variants.none J.thr none (default : HIx 1) list_credit) $$ [Hf HO]
  · isplitl [Hf]; · iexact Hf
    isplitl [HO]; · iexact HO
    iapply (Transfers.MayWaits.elim (SemLoc.dma r0.sem)) $$ HM
  iintro ⟨⟨Hx, Hs⟩, Hr, HO⟩
  rw [wp_ret]; imodintro
  ihave HD := (duty_insert J (O := O) r0.sem hW') $$ [HO]
  · isplitr <;> iassumption
  have hx : ixM.view.write (Elt F) f ((src J.L).view.read (Elt F) J.ids) Finset.univ = J.list := View.write_whole_univ ..
  ihave Hx := hix $$ [Hx]
  · rw [← hx]; iexact Hx
  icases Hx with ⟨HxA, HxB, HxC⟩
  ihave HA := (idle_split J A).2 $$ [HA HxA]
  · isplitl [HA]; · iexact HA
    iexact HxA
  ihave HB := (idle_split J B).2 $$ [HB HxB]
  · isplitl [HB]; · iexact HB
    iexact HxB
  ihave HC := (idle_split J C).2 $$ [HC HxC]
  · isplitl [HC]; · iexact HC
    iexact HxC
  iapply (wp_fire J A (ch 0) rfl rfl) $$ HA
  iintro HA
  iapply (wp_fire J B (ch 1) rfl rfl) $$ HB
  iintro HB
  iapply (wp_issue0 J C (ch 2) rfl) $$ HC
  iintro HC
  imodintro
  iapply HQ
  isplitl [Hs]; · iexact Hs
  isplitl [Hr]; · iexact Hr
  isplitl [HA]; · iexact HA
  isplitl [HB]; · iexact HB
  isplitl [HC]; · iexact HC
  iexact HD

/-- Chunk 2 being gathered, chunk 0 out, chunk 3 being gathered. -/
theorem wp_part5 (v2 : BitVec 32) {Q : PUnit → sProp 𝕄} :
    iprop(Gath2 J A (ch 0) ∗ Gath1 J C (ch 2) ∗ Chunks J 0 0 ∗ Duty J O W)
      ⊢ iprop((iprop(Gath2 J A (ch 3) ∗ Gath2 J C (ch 2) ∗ Chunks J 1 1 ∗ Duty J O W) -∗ Q ⟨⟩)
          -∗ wp frame (wpE (defs₀ (F := F)) Variants.none J.thr none) Set.univ
              (k0_part5 (F := F) J.L tabM h2 lstM h3 outM h4 ixM h5 A.buf hA B.buf hB C.buf hC A.g B.g C.g A.w B.w C.w r0 v2) Q) := by
  simp only [k0_part5_eq_skeleton, k0_part5_skel, wp_bind, wp_pure]
  iintro ⟨HA, HC, Hc, HD⟩ HQ
  iapply (wp_issue1 J C (ch 2) rfl) $$ HC
  iintro HC
  iapply (wp_drain J A (ch 0)) $$ [HA HD]
  · isplitl [HA]; · iexact HA
    iexact HD
  iintro ⟨HA, HD⟩
  iapply (wp_put J A (ch 0) (off2_eq J.L 0#32 (ch 0) rfl) (rfl : (ch 0).val = 0)) $$ [HA Hc]
  · isplitl [HA]; · iexact HA
    iexact Hc
  iintro ⟨HA, Hc⟩
  iapply (wp_putWaitNext J A (ch 0) (rfl : (ch 0).val = 0)) $$ [HA Hc HD]
  · isplitl [HA]; · iexact HA
    isplitl [Hc]; · iexact Hc
    iexact HD
  iintro ⟨HA, Hc, HD⟩
  iapply (wp_fire J A (ch 3) rfl rfl) $$ HA
  iintro HA
  imodintro
  iapply HQ
  isplitl [HA]; · iexact HA
  isplitl [HC]; · iexact HC
  isplitl [Hc]; · iexact Hc
  iexact HD

/-- Chunk 1 out, chunk 4 being gathered; the first wait for chunk 2. -/
theorem wp_part6 (v2 : BitVec 32) {Q : PUnit → sProp 𝕄} :
    iprop(Gath2 J B (ch 1) ∗ Gath2 J C (ch 2) ∗ Chunks J 1 1 ∗ Duty J O W)
      ⊢ iprop((iprop(Gath2 J B (ch 4) ∗ Gath3 J C (ch 2) ∗ Chunks J 2 2 ∗ Duty J O W) -∗ Q ⟨⟩)
          -∗ wp frame (wpE (defs₀ (F := F)) Variants.none J.thr none) Set.univ
              (k0_part6 (F := F) J.L tabM h2 lstM h3 outM h4 ixM h5 A.buf hA B.buf hB C.buf hC A.g B.g C.g A.w B.w C.w r0 v2) Q) := by
  simp only [k0_part6_eq_skeleton, k0_part6_skel, wp_bind, wp_pure]
  iintro ⟨HB, HC, Hc, HD⟩ HQ
  iapply (wp_drain J B (ch 1)) $$ [HB HD]
  · isplitl [HB]; · iexact HB
    iexact HD
  iintro ⟨HB, HD⟩
  iapply (wp_put J B (ch 1) (off2_eq J.L 256#32 (ch 1) rfl) (rfl : (ch 1).val = 1)) $$ [HB Hc]
  · isplitl [HB]; · iexact HB
    iexact Hc
  iintro ⟨HB, Hc⟩
  iapply (wp_putWaitNext J B (ch 1) (rfl : (ch 1).val = 1)) $$ [HB Hc HD]
  · isplitl [HB]; · iexact HB
    isplitl [Hc]; · iexact Hc
    iexact HD
  iintro ⟨HB, Hc, HD⟩
  iapply (wp_fire J B (ch 4) rfl rfl) $$ HB
  iintro HB
  iapply (wp_waitA J C (ch 2)) $$ [HC HD]
  · isplitl [HC]; · iexact HC
    iexact HD
  iintro ⟨HC, HD⟩
  imodintro
  iapply HQ
  isplitl [HB]; · iexact HB
  isplitl [HC]; · iexact HC
  isplitl [Hc]; · iexact Hc
  iexact HD

/-- The copy out of chunk 2, the loop, and chunk 98 being gathered; chunk 96 has arrived. -/
theorem wp_part7 (v2 : BitVec 32) {Q : PUnit → sProp 𝕄} :
    iprop(Gath2 J A (ch 3) ∗ Gath2 J B (ch 4) ∗ Gath3 J C (ch 2) ∗ Chunks J 2 2 ∗ Duty J O W)
      ⊢ iprop((iprop(Loaded J A (ch 96) ∗ Gath2 J B (ch 97) ∗ Gath2 J C (ch 98) ∗ Chunks J 96 96 ∗ Duty J O W) -∗ Q ⟨⟩)
          -∗ wp frame (wpE (defs₀ (F := F)) Variants.none J.thr none) Set.univ
              (k0_part7 (F := F) J.L tabM h2 lstM h3 outM h4 ixM h5 A.buf hA B.buf hB C.buf hC A.g B.g C.g A.w B.w C.w r0 v2) Q) := by
  simp only [k0_part7_eq_skeleton, k0_part7_skel, wp_bind, wp_pure]
  iintro ⟨HA, HB, HC, Hc, HD⟩ HQ
  iapply (wp_waitB J C (ch 2)) $$ [HC HD]
  · isplitl [HC]; · iexact HC
    iexact HD
  iintro ⟨HC, HD⟩
  iapply (wp_put J C (ch 2) (off2_eq J.L 512#32 (ch 2) rfl) (rfl : (ch 2).val = 2)) $$ [HC Hc]
  · isplitl [HC]; · iexact HC
    iexact Hc
  iintro ⟨HC, Hc⟩
  iapply (Scf.wp_for frame (wpE (defs₀ (F := F)) Variants.none J.thr none) Set.univ k0_t1_loop.lb k0_t1_loop.ub k0_t1_loop.st k0_t1_ok ⟨⟩ _
    (fun t _ => Inv J A B C O W t) (fun t x => trip J A B C r0 h2 h3 h4 h5 hA hB hC O W v2 t x))
  isplitl [HA HB HC Hc HD]
  · unfold Inv
    isplitl [HA]; · iexact HA
    isplitl [HB]; · iexact HB
    isplitl [HC]; · iexact HC
    isplitl [Hc]; · iexact Hc
    iexact HD
  iintro %_ HI
  rw [show Scf.trips k0_t1_loop.lb k0_t1_loop.ub k0_t1_loop.st = 31 from trips_eq]
  unfold Inv
  simp only [Nat.reduceMul, Nat.reduceAdd]
  icases HI with ⟨HA, HB, HC, Hc, HD⟩
  iapply (wp_putWaitNext J C (ch 95) (rfl : (ch 95).val = 95)) $$ [HC Hc HD]
  · isplitl [HC]; · iexact HC
    isplitl [Hc]; · iexact Hc
    iexact HD
  iintro ⟨HC, Hc, HD⟩
  iapply (wp_fire J C (ch 98) rfl rfl) $$ HC
  iintro HC
  iapply (wp_drain J A (ch 96)) $$ [HA HD]
  · isplitl [HA]; · iexact HA
    iexact HD
  iintro ⟨HA, HD⟩
  imodintro
  iapply HQ
  isplitl [HA]; · iexact HA
  isplitl [HB]; · iexact HB
  isplitl [HC]; · iexact HC
  isplitl [Hc]; · iexact Hc
  iexact HD

/-- Chunk 96 out, chunk 99 being gathered; the copy out of chunk 97, and the first wait for chunk 98. -/
theorem wp_part8 (v2 : BitVec 32) {Q : PUnit → sProp 𝕄} :
    iprop(Loaded J A (ch 96) ∗ Gath2 J B (ch 97) ∗ Gath2 J C (ch 98) ∗ Chunks J 96 96 ∗ Duty J O W)
      ⊢ iprop((iprop(Gath2 J A (ch 99) ∗ Put J B (ch 97) ∗ Gath3 J C (ch 98) ∗ Chunks J 97 98 ∗ Duty J O W) -∗ Q ⟨⟩)
          -∗ wp frame (wpE (defs₀ (F := F)) Variants.none J.thr none) Set.univ
              (k0_part8 (F := F) J.L tabM h2 lstM h3 outM h4 ixM h5 A.buf hA B.buf hB C.buf hC A.g B.g C.g A.w B.w C.w r0 v2) Q) := by
  simp only [k0_part8_eq_skeleton, k0_part8_skel, wp_bind, wp_pure]
  iintro ⟨HA, HB, HC, Hc, HD⟩ HQ
  iapply (wp_put J A (ch 96) (off2_eq J.L 24576#32 (ch 96) rfl) (rfl : (ch 96).val = 96)) $$ [HA Hc]
  · isplitl [HA]; · iexact HA
    iexact Hc
  iintro ⟨HA, Hc⟩
  iapply (wp_putWaitNext J A (ch 96) (rfl : (ch 96).val = 96)) $$ [HA Hc HD]
  · isplitl [HA]; · iexact HA
    isplitl [Hc]; · iexact Hc
    iexact HD
  iintro ⟨HA, Hc, HD⟩
  iapply (wp_fire J A (ch 99) rfl rfl) $$ HA
  iintro HA
  iapply (wp_drain J B (ch 97)) $$ [HB HD]
  · isplitl [HB]; · iexact HB
    iexact HD
  iintro ⟨HB, HD⟩
  iapply (wp_put J B (ch 97) (off2_eq J.L 24832#32 (ch 97) rfl) (rfl : (ch 97).val = 97)) $$ [HB Hc]
  · isplitl [HB]; · iexact HB
    iexact Hc
  iintro ⟨HB, Hc⟩
  iapply (wp_waitA J C (ch 98)) $$ [HC HD]
  · isplitl [HC]; · iexact HC
    iexact HD
  iintro ⟨HC, HD⟩
  imodintro
  iapply HQ
  isplitl [HA]; · iexact HA
  isplitl [HB]; · iexact HB
  isplitl [HC]; · iexact HC
  isplitl [Hc]; · iexact Hc
  iexact HD

include hix in
/-- All but the last wait. -/
theorem wp_part9 {Q : PUnit → sProp 𝕄} :
    iprop(((src J.L).view.loc J.thr ↦[(src J.L).view.set]{ql} J.ids) ∗ (∃ f, ixM.view.loc J.thr ↦[Finset.univ]{fullShare} f) ∗ semVal (J.thr, .dma r0.sem) 0
        ∗ Cold J A ∗ Cold J B ∗ Cold J C ∗ Chunks J 0 0 ∗ Duty J O W)
      ⊢ iprop((iprop(((src J.L).view.loc J.thr ↦[(src J.L).view.set]{ql} J.ids) ∗ semVal (J.thr, .dma r0.sem) 0
            ∗ Idle J A ∗ Idle J B ∗ Put J C (ch 98) ∗ Done J (ch 99) ∗ Chunks J 98 100 ∗ Duty J O W) -∗ Q ⟨⟩)
          -∗ wp frame (wpE (defs₀ (F := F)) Variants.none J.thr none) Set.univ
              (k0_part9 (F := F) J.L tabM h2 lstM h3 outM h4 ixM h5 A.buf hA B.buf hB C.buf hC A.g B.g C.g A.w B.w C.w r0) Q) := by
  simp only [k0_part9_eq_skeleton, k0_part9_skel, wp_bind, wp_pure]
  iintro ⟨Hs, Hx, Hr, HA, HB, HC, Hc, HD⟩ HQ
  iapply (wp_part4 J A B C r0 h2 h3 h4 h5 hA hB hC O W ql hix) $$ [Hs Hx Hr HA HB HC HD]
  · isplitl [Hs]; · iexact Hs
    isplitl [Hx]; · iexact Hx
    isplitl [Hr]; · iexact Hr
    isplitl [HA]; · iexact HA
    isplitl [HB]; · iexact HB
    isplitl [HC]; · iexact HC
    iexact HD
  iintro %v ⟨Hs, Hr, HA, HB, HC, HD⟩
  iapply (wp_part5 J A B C r0 h2 h3 h4 h5 hA hB hC O W v) $$ [HA HC Hc HD]
  · isplitl [HA]; · iexact HA
    isplitl [HC]; · iexact HC
    isplitl [Hc]; · iexact Hc
    iexact HD
  iintro ⟨HA, HC, Hc, HD⟩
  iapply (wp_part6 J A B C r0 h2 h3 h4 h5 hA hB hC O W v) $$ [HB HC Hc HD]
  · isplitl [HB]; · iexact HB
    isplitl [HC]; · iexact HC
    isplitl [Hc]; · iexact Hc
    iexact HD
  iintro ⟨HB, HC, Hc, HD⟩
  iapply (wp_part7 J A B C r0 h2 h3 h4 h5 hA hB hC O W v) $$ [HA HB HC Hc HD]
  · isplitl [HA]; · iexact HA
    isplitl [HB]; · iexact HB
    isplitl [HC]; · iexact HC
    isplitl [Hc]; · iexact Hc
    iexact HD
  iintro ⟨HA, HB, HC, Hc, HD⟩
  iapply (wp_part8 J A B C r0 h2 h3 h4 h5 hA hB hC O W v) $$ [HA HB HC Hc HD]
  · isplitl [HA]; · iexact HA
    isplitl [HB]; · iexact HB
    isplitl [HC]; · iexact HC
    isplitl [Hc]; · iexact Hc
    iexact HD
  iintro ⟨HA, HB, HC, Hc, HD⟩
  iapply (wp_waitB J C (ch 98)) $$ [HC HD]
  · isplitl [HC]; · iexact HC
    iexact HD
  iintro ⟨HC, HD⟩
  iapply (wp_put J C (ch 98) (off2_eq J.L 25088#32 (ch 98) rfl) (rfl : (ch 98).val = 98)) $$ [HC Hc]
  · isplitl [HC]; · iexact HC
    iexact Hc
  iintro ⟨HC, Hc⟩
  iapply (wp_drain J A (ch 99)) $$ [HA HD]
  · isplitl [HA]; · iexact HA
    iexact HD
  iintro ⟨HA, HD⟩
  iapply (wp_put J A (ch 99) (off2_eq J.L 25344#32 (ch 99) rfl) (rfl : (ch 99).val = 99)) $$ [HA Hc]
  · isplitl [HA]; · iexact HA
    iexact Hc
  iintro ⟨HA, Hc⟩
  iapply (wp_putWait J A (ch 99)) $$ [HA HD]
  · isplitl [HA]; · iexact HA
    iexact HD
  iintro ⟨HA, Hl, HD⟩
  iapply (wp_putWaitNext J B (ch 97) (rfl : (ch 97).val = 97)) $$ [HB Hc HD]
  · isplitl [HB]; · iexact HB
    isplitl [Hc]; · iexact Hc
    iexact HD
  iintro ⟨HB, Hc, HD⟩
  imodintro
  iapply HQ
  isplitl [Hs]; · iexact Hs
  isplitl [Hr]; · iexact Hr
  isplitl [HA]; · iexact HA
  isplitl [HB]; · iexact HB
  isplitl [HC]; · iexact HC
  isplitl [Hl]; · iexact Hl
  isplitl [Hc]; · iexact Hc
  iexact HD

include hix in
/-- The body: every chunk out, everything borrowed back. -/
theorem wp_body {Q : PUnit → sProp 𝕄} :
    iprop(((src J.L).view.loc J.thr ↦[(src J.L).view.set]{ql} J.ids) ∗ (∃ f, ixM.view.loc J.thr ↦[Finset.univ]{fullShare} f) ∗ semVal (J.thr, .dma r0.sem) 0
        ∗ Cold J A ∗ Cold J B ∗ Cold J C ∗ Chunks J 0 0 ∗ Duty J O W)
      ⊢ iprop((iprop(((src J.L).view.loc J.thr ↦[(src J.L).view.set]{ql} J.ids) ∗ (IxOf J A ∗ IxOf J B ∗ IxOf J C) ∗ semVal (J.thr, .dma r0.sem) 0
            ∗ Cold J A ∗ Cold J B ∗ Cold J C ∗ Chunks J 100 100 ∗ Duty J O W) -∗ Q ⟨⟩)
          -∗ wp frame (wpE (defs₀ (F := F)) Variants.none J.thr none) Set.univ
              (cc0_k (F := F) J.L tabM h2 lstM h3 outM h4 ixM h5 A.buf hA B.buf hB C.buf hC A.g B.g C.g A.w B.w C.w r0) Q) := by
  simp only [cc0_k_eq_skeleton, cc0_k_skel, wp_bind, wp_pure]
  iintro ⟨Hs, Hx, Hr, HA, HB, HC, Hc, HD⟩ HQ
  iapply (wp_part9 J A B C r0 h2 h3 h4 h5 hA hB hC O W ql hix) $$ [Hs Hx Hr HA HB HC Hc HD]
  · isplitl [Hs]; · iexact Hs
    isplitl [Hx]; · iexact Hx
    isplitl [Hr]; · iexact Hr
    isplitl [HA]; · iexact HA
    isplitl [HB]; · iexact HB
    isplitl [HC]; · iexact HC
    isplitl [Hc]; · iexact Hc
    iexact HD
  iintro ⟨Hs, Hr, HA, HB, HC, Hl, Hc, HD⟩
  iapply (wp_putWaitNext J C (ch 98) (rfl : (ch 98).val = 98)) $$ [HC Hc HD]
  · isplitl [HC]; · iexact HC
    isplitl [Hc]; · iexact Hc
    iexact HD
  iintro ⟨HC, Hc, HD⟩
  ihave Hc := (chunks_put J (ch 99) (a := 99) (b := 100) rfl) $$ [Hl Hc]
  · isplitl [Hl]; · iexact Hl
    iexact Hc
  ihave HA := (idle_split J A).1 $$ HA
  icases HA with ⟨HA, HiA⟩
  ihave HB := (idle_split J B).1 $$ HB
  icases HB with ⟨HB, HiB⟩
  ihave HC := (idle_split J C).1 $$ HC
  icases HC with ⟨HC, HiC⟩
  imodintro
  iapply HQ
  isplitl [Hs]; · iexact Hs
  isplitl [HiA HiB HiC]
  · isplitl [HiA]; · iexact HiA
    isplitl [HiB] <;> iassumption
  isplitl [Hr]; · iexact Hr
  isplitl [HA]; · iexact HA
  isplitl [HB]; · iexact HB
  isplitl [HC]; · iexact HC
  isplitl [Hc] <;> iassumption

end Cert.Proof.Gather

end
-- ==== Proof.Task.lean ====
/-
  A vector subcore's task from what the launch gives it: a share of the flattened `x`, a share of the table, its rows of
  the result, and its own scratch buffers and semaphores. The shares are cut for the three row buffers (`slots`), the
  body runs (`wp_body`), and everything comes back, the rows of the result holding the rows of the table (`wp_task`).
-/
module

public import proofs.«01_k».proof.Proof.Tile
public import Idealize.ShloMosaic.Lib.Pipeline.Kit

@[expose] public section

noncomputable section

namespace Cert.Proof.Gather

open Cert.KernelIdeal Cert.KernelIdeal.Gen
open Idealize.ShloMosaic
open Idealize.ShloMosaic.SparseCore (V)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Streams

variable {F : FTy → Type}

local notation "𝕄" => MT nD τ sig (HIx 1) (Elt F) ℕ UU ℕ

/-! ## The row buffers and their shares -/

/-- Piece `2 i + h` of a share cut in six: what half `h`'s gather into row buffer `i` borrows. -/
def sixth (q : PosShare TreeShare) (i : Fin 3) (h : Fin 2) : PosShare TreeShare :=
  pieceOf q 6 (by decide) ⟨2 * i.val + h.val, by omega⟩

/-- A points-to at a share is the six pieces'. -/
theorem pointsTo_sixths {ℓ : Loc nD τ sig} (I : Finset (Idx ℓ)) (f : Buf (Elt F) ℓ) (q : PosShare TreeShare) :
    (ℓ ↦[I]{q} f : sProp 𝕄)
      ⊣⊢ iprop(((ℓ ↦[I]{sixth q 0 0} f) ∗ (ℓ ↦[I]{sixth q 0 1} f)) ∗ ((ℓ ↦[I]{sixth q 1 0} f) ∗ (ℓ ↦[I]{sixth q 1 1} f))
          ∗ ((ℓ ↦[I]{sixth q 2 0} f) ∗ (ℓ ↦[I]{sixth q 2 1} f))) := by
  have h : (ℓ ↦[I]{q} f : sProp 𝕄)
      = iprop((ℓ ↦[I]{sixth q 0 0} f) ∗ (ℓ ↦[I]{sixth q 0 1} f) ∗ (ℓ ↦[I]{sixth q 1 0} f) ∗ (ℓ ↦[I]{sixth q 1 1} f)
          ∗ (ℓ ↦[I]{sixth q 2 0} f) ∗ (ℓ ↦[I]{sixth q 2 1} f)) := by
    rw [pointsTo_piecesOf I f (o := 6) (by decide) q]
    exact bigSep_univ_eq_bigSepL [0, 1, 2, 3, 4, 5] (by decide) (by decide) _
  rw [h]
  constructor
  · iintro ⟨H0, H1, H2, H3, H4, H5⟩
    isplitl [H0 H1]; · isplitl [H0] <;> iassumption
    isplitl [H2 H3]; · isplitl [H2] <;> iassumption
    isplitl [H4] <;> iassumption
  · iintro ⟨⟨H0, H1⟩, ⟨H2, H3⟩, H4, H5⟩
    isplitl [H0]; · iexact H0
    isplitl [H1]; · iexact H1
    isplitl [H2]; · iexact H2
    isplitl [H3]; · iexact H3
    isplitl [H4] <;> iassumption

/-- The three row buffers of a subcore that holds share `q` of the table and all of its index scratch. -/
def slotA (q : PosShare TreeShare) : Slot := ⟨Memref.whole cc0_scratch1, cc0_scratch4, cc0_scratch7, sixth q 0, sixth fullShare 0⟩
def slotB (q : PosShare TreeShare) : Slot := ⟨Memref.whole cc0_scratch2, cc0_scratch5, cc0_scratch8, sixth q 1, sixth fullShare 1⟩
def slotC (q : PosShare TreeShare) : Slot := ⟨Memref.whole cc0_scratch3, cc0_scratch6, cc0_scratch9, sixth q 2, sixth fullShare 2⟩

/-! ## What a subcore owns -/

variable (d : Dev nD) (L : grid0.Coords)

/-- One of its scratch buffers, at any contents; one of its semaphores, at zero. -/
abbrev Scr (b : Ref sig .scVector) : sProp 𝕄 := iprop(∃ f : Buf (Elt F) ((thr d L).loc b), (thr d L).loc b ↦{fullShare} f)
abbrev Zero (a : DmaSems sig S_) : sProp 𝕄 := semVal (thr d L, .dma a.sem) 0

/-- The kernel's scratch buffers; -/
def Scratch : sProp 𝕄 :=
  iprop(Scr (F := F) d L cc0_scratch0 ∗ Scr (F := F) d L cc0_scratch1 ∗ Scr (F := F) d L cc0_scratch2 ∗ Scr (F := F) d L cc0_scratch3)
/-- its semaphores. -/
def Sems : sProp 𝕄 :=
  iprop(Zero (F := F) d L cc0_scratch4 ∗ Zero (F := F) d L cc0_scratch5 ∗ Zero (F := F) d L cc0_scratch6 ∗ Zero (F := F) d L cc0_scratch7
    ∗ Zero (F := F) d L cc0_scratch8 ∗ Zero (F := F) d L cc0_scratch9 ∗ Zero (F := F) d L cc0_scoped0)

/-- A subset split off a star, and put back. -/
theorem bigSep_part {I : Type} [DecidableEq I] {s t : Finset I} (h : s ⊆ t) (Φ : I → sProp 𝕄) :
    bigSep t Φ = iprop(bigSep s Φ ∗ bigSep (t \ s) Φ) := by
  rw [show iprop(bigSep s Φ ∗ bigSep (t \ s) Φ) = bigSep (s ∪ t \ s) Φ from (BI.bigSep_union Finset.disjoint_sdiff).symm,
    Finset.union_sdiff_of_subset h]

/-- The kernel's scratch buffers and semaphores, numbered. -/
def scratchOf : Fin 4 → Ref sig .scVector := ![cc0_scratch0, cc0_scratch1, cc0_scratch2, cc0_scratch3]
def semOf : Fin 7 → DmaSem sig :=
  ![cc0_scratch4.sem, cc0_scratch5.sem, cc0_scratch6.sem, cc0_scratch7.sem, cc0_scratch8.sem, cc0_scratch9.sem, cc0_scoped0.sem]

theorem scratchOf_inj : Function.Injective scratchOf := by decide
theorem semOf_inj : Function.Injective semOf := by decide
theorem scratchOf_owner : ∀ i, ((Proc.scVector (cV L) (jV L)).devRef (scratchOf i) : DevRef τ sig).owner = .proc (.scVector (cV L) (jV L))
  | 0 => rfl | 1 => rfl | 2 => rfl | 3 => rfl
theorem semOf_scoped : ∀ i, (SemLoc.dma (semOf i) : SemLoc sig).isScoped .scVector = true := by decide

/-- The kernel's scratch buffers are among the subcore's own. -/
theorem ownBufs_split : ∃ R : sProp 𝕄, (ownBufs (thr d L) : sProp 𝕄) = iprop(Scratch d L ∗ R) := by
  let e : Fin 4 ↪ DevRef τ sig := ⟨fun i => (Proc.scVector (cV L) (jV L)).devRef (scratchOf i), (Proc.devRef_injective _).comp scratchOf_inj⟩
  have he : Finset.univ.map e ⊆ ownRefs (τ := τ) (sig := sig) (.scVector (cV L) (jV L)) := fun b hb => by
    obtain ⟨i, -, rfl⟩ := Finset.mem_map.mp hb
    exact SparseCore.Cfg.mem_ownRefs_of_owner (scratchOf_owner L i)
  refine ⟨_, (bigSep_part he _).trans (congrArg (fun P : sProp 𝕄 => iprop(P ∗ _)) ?_)⟩
  rw [BI.bigSep_map]
  exact bigSep_univ_eq_bigSepL [0, 1, 2, 3] (by decide) (by decide) _

/-- The kernel's semaphores are among the subcore's own. -/
theorem ownSems_split : ∃ R : sProp 𝕄, (ownSems0 (thr d L) : sProp 𝕄) = iprop(Sems d L ∗ R) := by
  let e : Fin 7 ↪ GSem nD τ sig := ⟨fun i => (thr d L, .dma (semOf i)), fun i j h => semOf_inj (SemLoc.dma.inj (Prod.mk.inj h).2)⟩
  have he : Finset.univ.map e ⊆ ownCells (thr d L) := fun g hg => by
    obtain ⟨i, -, rfl⟩ := Finset.mem_map.mp hg
    exact mem_ownCells.mpr ⟨rfl, semOf_scoped i⟩
  refine ⟨_, (bigSep_part he _).trans (congrArg (fun P : sProp 𝕄 => iprop(P ∗ _)) ?_)⟩
  rw [BI.bigSep_map]
  exact bigSep_univ_eq_bigSepL [0, 1, 2, 3, 4, 5, 6] (by decide) (by decide) _

/-! ## The task -/

variable [FloatOps F] (J : Job F) (qi qt : PosShare TreeShare) (O : CellTallies nD τ sig (HIx 1)) (W : Waits sig (HIx 1))

/-- What a task takes of the launch, and hands back: its shares of the flattened `x` and of the table. -/
def Given : sProp 𝕄 := iprop((lstM.view.loc J.thr ↦[Finset.univ]{qi} J.ids) ∗ (tabM.view.loc J.thr ↦[Finset.univ]{qt} J.tab))

/-- The task: every row of its part of the result holds the row of the table that its word of `x` names. -/
theorem wp_task :
    iprop(Given J qi qt ∗ Chunks J 0 0 ∗ Scratch J.d J.L ∗ Sems J.d J.L ∗ Duty J O W)
      ⊢ wp frame (wpE (defs₀ (F := F)) Variants.none J.thr none) Set.univ
          (cc0_k (F := F) J.L tabM (Memref.isWhole_whole _) lstM (Memref.isWhole_whole _) outM (Memref.isWhole_whole _) ixM (Memref.isWhole_whole _)
            (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7 cc0_scratch8 cc0_scratch9 cc0_scoped0)
          fun _ => iprop(Given J qi qt ∗ Chunks J 100 100 ∗ Scratch J.d J.L ∗ Sems J.d J.L ∗ Duty J O W) := by
  -- a row buffer is its elements
  have hA : (Rows J (slotA qt) : sProp 𝕄) = Scr J.d J.L cc0_scratch1 := by
    unfold Rows Scr; rw [show (slotA qt).buf.view.set = Finset.univ from View.set_whole _]; rfl
  have hB : (Rows J (slotB qt) : sProp 𝕄) = Scr J.d J.L cc0_scratch2 := by
    unfold Rows Scr; rw [show (slotB qt).buf.view.set = Finset.univ from View.set_whole _]; rfl
  have hC : (Rows J (slotC qt) : sProp 𝕄) = Scr J.d J.L cc0_scratch3 := by
    unfold Rows Scr; rw [show (slotC qt).buf.view.set = Finset.univ from View.set_whole _]; rfl
  have hix : (ixM.view.loc J.thr ↦[Finset.univ]{fullShare} J.list : sProp 𝕄) ⊣⊢ iprop(IxOf J (slotA qt) ∗ IxOf J (slotB qt) ∗ IxOf J (slotC qt)) :=
    pointsTo_sixths _ _ _
  have htab : (tabM.view.loc J.thr ↦[Finset.univ]{qt} J.tab : sProp 𝕄) ⊣⊢ iprop(TabOf J (slotA qt) ∗ TabOf J (slotB qt) ∗ TabOf J (slotC qt)) :=
    pointsTo_sixths _ _ _
  unfold Given Scratch Sems
  iintro ⟨⟨Hi, Ht⟩, Hc, ⟨Hx, HA, HB, HC⟩, ⟨HgA, HgB, HgC, HwA, HwB, HwC, Hr⟩, HD⟩
  ihave Ht := htab.1 $$ Ht
  icases Ht with ⟨HtA, HtB, HtC⟩
  ihave Hi := (pointsTo_split_subset (q := qi) (f := J.ids) (S := Finset.univ) (Finset.subset_univ (src J.L).view.set)).1 $$ Hi
  icases Hi with ⟨Hs, Hi⟩
  ihave HA := (Entails.of_eq hA.symm) $$ HA
  ihave HB := (Entails.of_eq hB.symm) $$ HB
  ihave HC := (Entails.of_eq hC.symm) $$ HC
  iapply (wp_body J (slotA qt) (slotB qt) (slotC qt) cc0_scoped0 _ _ _ _ _ _ _ O W qi hix.1) $$ [Hs Hx Hr HA HB HC HgA HgB HgC HwA HwB HwC HtA HtB HtC Hc HD]
  · isplitl [Hs]; · iexact Hs
    isplitl [Hx]; · iexact Hx
    isplitl [Hr]; · iexact Hr
    isplitl [HA HtA HgA HwA]
    · unfold Cold Free
      isplitl [HA]; · iexact HA
      isplitl [HtA]; · iexact HtA
      isplitl [HgA]; · iexact HgA
      iexact HwA
    isplitl [HB HtB HgB HwB]
    · unfold Cold Free
      isplitl [HB]; · iexact HB
      isplitl [HtB]; · iexact HtB
      isplitl [HgB]; · iexact HgB
      iexact HwB
    isplitl [HC HtC HgC HwC]
    · unfold Cold Free
      isplitl [HC]; · iexact HC
      isplitl [HtC]; · iexact HtC
      isplitl [HgC]; · iexact HgC
      iexact HwC
    isplitl [Hc]; · iexact Hc
    iexact HD
  unfold Cold Free
  iintro ⟨Hs, Hx, Hr, ⟨HA, HtA, HgA, HwA⟩, ⟨HB, HtB, HgB, HwB⟩, ⟨HC, HtC, HgC, HwC⟩, Hc, HD⟩
  isplitl [Hs Hi HtA HtB HtC]
  · isplitl [Hs Hi]
    · iapply (pointsTo_split_subset (q := qi) (f := J.ids) (S := Finset.univ) (Finset.subset_univ (src J.L).view.set)).2
      isplitl [Hs]; · iexact Hs
      iexact Hi
    · iapply htab.2
      isplitl [HtA]; · iexact HtA
      isplitl [HtB]; · iexact HtB
      iexact HtC
  isplitl [Hc]; · iexact Hc
  isplitl [Hx HA HB HC]
  · isplitl [Hx]
    · unfold Scr
      iexists J.list
      iapply hix.2
      iexact Hx
    isplitl [HA]; · iapply (Entails.of_eq hA); iexact HA
    isplitl [HB]; · iapply (Entails.of_eq hB); iexact HB
    iapply (Entails.of_eq hC); iexact HC
  isplitr [HD]
  · isplitl [HgA]; · iexact HgA
    isplitl [HgB]; · iexact HgB
    isplitl [HgC]; · iexact HgC
    isplitl [HwA]; · iexact HwA
    isplitl [HwB]; · iexact HwB
    isplitl [HwC]; · iexact HwC
    iexact Hr
  iexact HD

end Cert.Proof.Gather

end
-- ==== Proof.Launch.lean ====
/-
  The launch. @main flattens `x` (a reshape), starts the two SparseCores' 32 vector subcores, each with the task that
  `Task` proves, waits for them, and gives the result its shape (a reshape). Each task takes a share of the flattened
  `x`, a share of the table, and its own 100 chunks of the result outright (`toTile`); all the tasks' together are the
  three arrays whole (`whole_tiles`). The run (`run_main`): it terminates, nothing faulting, `x` and the table
  unchanged, the result at the rows of the table that `x` names (`out`), every semaphore counter back at zero.
  Everything is over any float values `F`: the kernel moves rows and computes nothing with them.
-/
module

public import proofs.«01_k».proof.Proof.Task
public import Idealize.ShloMosaic.Lib.StableHlo.Run

@[expose] public section

noncomputable section

namespace Cert.Proof.Gather

open Cert.KernelIdeal Cert.KernelIdeal.Gen
open Idealize.ShloMosaic
open Idealize.ShloMosaic.SparseCore (V)
open Idealize.ShloMosaic.SparseCore.Cfg (HIx Pay ownBufs ownSems0)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Streams

variable {F : FTy → Type}

local notation "𝕄" => MT nD τ sig (HIx 1) (Elt F) ℕ UU ℕ

/-! ## The program as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := Variants.none.lift
abbrev v₀ : 𝒱.V := Sum.inl none
abbrev EH : Emb UH (MT nD τ sig (HIx 1) (Elt F) ℕ UU ℕ) := embL

theorem nCore_eq : (K (F := F)).nCore 0 = 2 := rfl
theorem nSub_eq : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays and their values -/

variable (m : (ℓ : Loc nD τ sig) → Buf (Elt F) ℓ) (ρ : Dev nD → PrngReg)

/-- `x`, the table, the flattened `x`, the rows, the result. -/
abbrev xLoc (d : Dev nD) : Loc nD τ sig := (SparseCore.T d).loc main_arg0
abbrev tLoc (d : Dev nD) : Loc nD τ sig := (SparseCore.T d).loc main_arg1
abbrev lLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The flattened `x`; -/
def ids (d : Dev nD) : S819200.Idx → Elt F .i32 := shapeCast S819200 (m (xLoc d)) shapeCasts_S4096x200_S819200
/-- the table; -/
def tab (d : Dev nD) : S1000002x128.Idx → Elt F .f32 := m (tLoc d)
/-- the rows of the table that it names; -/
def rowsOf (d : Dev nD) : S819200x128.Idx → Elt F .f32 := goal (tab m d) (ids m d)
/-- those rows at the result's shape. -/
def out (d : Dev nD) : S4096x200x128.Idx → Elt F .f32 := shapeCast S4096x200x128 (rowsOf m d) shapeCasts_S819200x128_S4096x200x128

/-- What the proof asks of the launch memory: every word of `x` names a row of the table. -/
def PreOK : Prop := ∀ d, InRange (ids m d)

/-! ## The tasks' pieces of the arrays -/

/-- The coordinates of subcore `s` of SparseCore `c`; -/
def coords (c : Fin 2) (s : Fin 16) : grid0.Coords := fun | 0 => c | 1 => s | ⟨_ + 2, h⟩ => absurd h (Nat.not_lt.2 (Nat.le_add_left _ _))

/-- its share of an array that every task reads: the whole cut in two, and each half in 16. -/
def shr (c : Fin 2) (s : Fin 16) : PosShare TreeShare := pieceOf (pieceOf fullShare 2 (by decide) c) 16 (by decide) s

theorem pointsTo_tiles {ℓ : Loc nD τ sig} (f : Buf (Elt F) ℓ) :
    (ℓ ↦{fullShare} f : sProp 𝕄) = bigSep Finset.univ fun c => bigSep Finset.univ fun s => ℓ ↦{shr c s} f := by
  rw [pointsTo_piecesOf Finset.univ f (o := 2) (by decide) fullShare]
  exact bigSep_congr fun c _ => pointsTo_piecesOf Finset.univ f (o := 16) (by decide) _

/-- The chunks' elements of the result. -/
abbrev chunkSet (i : Fin 2 × Fin 16 × Fin 100) : Finset S819200x128.Idx := (chunk (coords i.1 i.2.1) i.2.2).view.set

theorem chunkSet_eq (i : Fin 2 × Fin 16 × Fin 100) : chunkSet i = (chunkRect (coords i.1 i.2.1) i.2.2).set := by
  show ((View.whole (main_v1_scv : Ref sig .scVector)).slice (chunkRect (coords i.1 i.2.1) i.2.2)).set = _
  rw [View.set_slice]; exact Finset.map_refl

/-- A chunk's first row. -/
theorem base_coords (c : Fin 2) (s : Fin 16) : base (coords c s) = 51200 * s.val + 25600 * c.val := rfl

theorem chunks_disjoint : ∀ i ∈ (Finset.univ : Finset (Fin 2 × Fin 16 × Fin 100)), ∀ j ∈ (Finset.univ : Finset (Fin 2 × Fin 16 × Fin 100)),
    i ≠ j → Disjoint (chunkSet i) (chunkSet j) := by
  rintro ⟨c, s, k⟩ - ⟨c', s', k'⟩ - hne
  rw [chunkSet_eq, chunkSet_eq]
  have hb := base_coords c s
  have hb' := base_coords c' s'
  have h : base (coords c s) + 256 * k.val + 256 ≤ base (coords c' s') + 256 * k'.val
      ∨ base (coords c' s') + 256 * k'.val + 256 ≤ base (coords c s) + 256 * k.val := by
    by_contra hn
    apply hne
    simp only [Prod.mk.injEq, Fin.ext_iff]
    omega
  exact Rect.unit_disjoint (0 : Fin 2) h

theorem cover_of {α ι : Type} [Fintype α] [DecidableEq α] [Fintype ι] (S : ι → Finset α) (h : ∀ y, ∃ i, y ∈ S i) : Finset.univ.biUnion S = Finset.univ :=
  Finset.eq_univ_iff_forall.mpr fun y => (h y).elim fun i hi => Finset.mem_biUnion.mpr ⟨i, Finset.mem_univ i, hi⟩

theorem chunks_cover : (Finset.univ : Finset (Fin 2 × Fin 16 × Fin 100)).biUnion chunkSet = Finset.univ := by
  refine cover_of chunkSet fun y => ?_
  have h0 : (y 0).val < 819200 := (y 0).isLt
  have h1 : (y 1).val < 128 := (y 1).isLt
  refine ⟨(⟨(y 0).val % 51200 / 25600, by omega⟩, ⟨(y 0).val / 51200, by omega⟩, ⟨(y 0).val % 25600 / 256, by omega⟩), ?_⟩
  rw [chunkSet_eq, Rect.mem_set_unit]
  intro a
  match a with
  | 0 =>
    show base (coords _ _) + 256 * ((y 0).val % 25600 / 256) ≤ (y 0).val ∧ (y 0).val < base (coords _ _) + 256 * ((y 0).val % 25600 / 256) + 256
    rw [base_coords]
    show 51200 * ((y 0).val / 51200) + 25600 * ((y 0).val % 51200 / 25600) + 256 * ((y 0).val % 25600 / 256) ≤ (y 0).val
      ∧ (y 0).val < 51200 * ((y 0).val / 51200) + 25600 * ((y 0).val % 51200 / 25600) + 256 * ((y 0).val % 25600 / 256) + 256
    omega
  | 1 => exact ⟨Nat.zero_le _, by show (y 1).val < 0 + 128; omega⟩

/-- A task's chunks of the rows, holding `f`'s. -/
def chunksAt (d : Dev nD) (f : Buf (Elt F) (oLoc d)) (c : Fin 2) (s : Fin 16) : sProp 𝕄 :=
  bigSep Finset.univ fun k : Fin 100 => oLoc d ↦[chunkSet (c, s, k)]{fullShare} f

theorem pointsTo_chunks (d : Dev nD) (f : Buf (Elt F) (oLoc d)) :
    (oLoc d ↦{fullShare} f : sProp 𝕄) = bigSep Finset.univ fun c => bigSep Finset.univ fun s => chunksAt d f c s := by
  have h : (oLoc d ↦{fullShare} f : sProp 𝕄) = bigSep Finset.univ fun i => oLoc d ↦[chunkSet i]{fullShare} f := by
    rw [← pointsTo_biUnion Finset.univ (ℓ := oLoc d) chunkSet chunks_disjoint, chunks_cover]
  rw [h, BI.bigSep_univ_prod]
  exact bigSep_congr fun c _ => BI.bigSep_univ_prod _

/-- What a task takes, and hands back: its share of the flattened `x`, of the table, and its chunks. -/
def toTile (d : Dev nD) (f : Buf (Elt F) (oLoc d)) (c : Fin 2) (s : Fin 16) : sProp 𝕄 :=
  iprop((lLoc d ↦{shr c s} ids m d) ∗ (tLoc d ↦{shr c s} tab m d) ∗ chunksAt d f c s)

/-- A SparseCore's tasks' together. -/
def toCore (d : Dev nD) (f : Buf (Elt F) (oLoc d)) (c : Fin 2) : sProp 𝕄 := bigSep Finset.univ fun s => toTile m d f c s

/-- All of them are the arrays whole. -/
theorem whole_tiles (d : Dev nD) (f : Buf (Elt F) (oLoc d)) :
    (bigSep Finset.univ fun c => toCore m d f c : sProp 𝕄)
      = iprop((lLoc d ↦{fullShare} ids m d) ∗ (tLoc d ↦{fullShare} tab m d) ∗ (oLoc d ↦{fullShare} f)) := by
  rw [pointsTo_tiles (ℓ := lLoc d), pointsTo_tiles (ℓ := tLoc d), pointsTo_chunks]
  unfold toCore toTile
  simp only [bigSep_sep']

instance toTile_storable (d : Dev nD) (f : Buf (Elt F) (oLoc d)) (c : Fin 2) (s : Fin 16) : Storable (upEmb : UEmb _ 𝕄) (toTile m d f c s) := by
  unfold toTile chunksAt; infer_instance
instance toCore_storable (d : Dev nD) (f : Buf (Elt F) (oLoc d)) (c : Fin 2) : Storable (upEmb : UEmb _ 𝕄) (toCore m d f c) := by
  unfold toCore; infer_instance

/-- The call's handshakes: a SparseCore takes its tasks' pieces and brings them back, the rows in place; so does each task. -/
def P : (K (F := F)).Pay (nD := nD) (Val := Elt F) (Name := ℕ) (U := UU) where
  st := fun q d c => match q with | 0 => toCore m d (m (oLoc d)) (Fin.cast nCore_eq c)
  dn := fun q d c => match q with | 0 => toCore m d (rowsOf m d) (Fin.cast nCore_eq c)
  go := fun q d c i => match q with | 0 => toTile m d (m (oLoc d)) (Fin.cast nCore_eq c) (Fin.cast nSub_eq i)
  td := fun q d c i => match q with | 0 => toTile m d (rowsOf m d) (Fin.cast nCore_eq c) (Fin.cast nSub_eq i)
  x := fun _ _ => iprop(emp)

instance P_storable : (P (F := F) m).IsStorable where
  st q d c := match q with | 0 => toCore_storable m d _ _
  dn q d c := match q with | 0 => toCore_storable m d _ _
  go q d c i := match q with | 0 => toTile_storable m d _ _ _
  td q d c i := match q with | 0 => toTile_storable m d _ _ _

attribute [local irreducible] toCore toTile

theorem P_st (d : Dev nD) (c : Fin ((K (F := F)).nCore 0)) : (P m).st 0 d c = toCore m d (m (oLoc d)) (Fin.cast nCore_eq c) := rfl
theorem P_dn (d : Dev nD) (c : Fin ((K (F := F)).nCore 0)) : (P m).dn 0 d c = toCore m d (rowsOf m d) (Fin.cast nCore_eq c) := rfl
theorem P_go (d : Dev nD) (c : Fin ((K (F := F)).nCore 0)) (i : Fin ((K (F := F)).nSub 0)) :
    (P m).go 0 d c i = toTile m d (m (oLoc d)) (Fin.cast nCore_eq c) (Fin.cast nSub_eq i) := rfl
theorem P_td (d : Dev nD) (c : Fin ((K (F := F)).nCore 0)) (i : Fin ((K (F := F)).nSub 0)) :
    (P m).td 0 d c i = toTile m d (rowsOf m d) (Fin.cast nCore_eq c) (Fin.cast nSub_eq i) := rfl

variable [FloatOps F]

/-! ## The tasks -/

theorem chunks_start (J : Job F) (f : Buf (Elt F) (oLoc J.d)) :
    (bigSep Finset.univ fun k : Fin 100 => oLoc J.d ↦[(chunk J.L k).view.set]{fullShare} f : sProp 𝕄) ⊢ Chunks J 0 0 := by
  unfold Chunks
  rw [show (Finset.univ.filter fun k : Fin 100 => k.val < 0) = ∅ by decide, show (Finset.univ.filter fun k : Fin 100 => 0 ≤ k.val) = Finset.univ by decide]
  have h1 (k : Fin 100) : (oLoc J.d ↦[(chunk J.L k).view.set]{fullShare} f : sProp 𝕄) ⊢ Todo J k := by
    unfold Todo; iintro H; iexists f; iexact H
  have h : (bigSep Finset.univ fun k : Fin 100 => oLoc J.d ↦[(chunk J.L k).view.set]{fullShare} f : sProp 𝕄) ⊢ bigSep Finset.univ (Todo J) :=
    bigSep_mono fun k _ => h1 k
  iintro H
  isplitr
  · rw [show bigSep ∅ (Done J) = (iprop(emp) : sProp 𝕄) from bigSep_empty]; iempintro
  · iapply h; iexact H

theorem chunks_end (J : Job F) :
    (Chunks J 100 100 : sProp 𝕄) ⊢ bigSep Finset.univ fun k : Fin 100 => oLoc J.d ↦[(chunk J.L k).view.set]{fullShare} goal J.tab J.ids := by
  unfold Chunks
  rw [show (Finset.univ.filter fun k : Fin 100 => k.val < 100) = Finset.univ by decide]
  iintro ⟨H, -⟩
  iexact H

/-- The task of subcore `s` of SparseCore `c`, from what its `go` signal hands it to what its `taskDone` hands back. -/
theorem tile_body (hpre : PreOK m) (d : Dev nD) (c : Fin 2) (s : Fin 16) (O : CellTallies nD τ sig (HIx 1)) (W : Waits sig (HIx 1)) (hO : ∀ g, O g none = 0) :
    iprop(levAts (K (F := F)).L (K (F := F)).lev ∗ emp ∗ toTile m d (m (oLoc d)) c s
        ∗ scopedBufs (thr d (coords c s)) ∗ scopedSems0 (thr d (coords c s)) ∗ owes (thr d (coords c s)) O W)
      ⊢ wp frame (wpE (defs₀ (F := F)) Variants.none (thr d (coords c s)) none) Set.univ
          (cc0_k (F := F) (coords c s) tabM (Memref.isWhole_whole _) lstM (Memref.isWhole_whole _) outM (Memref.isWhole_whole _) ixM (Memref.isWhole_whole _)
            (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7 cc0_scratch8 cc0_scratch9 cc0_scoped0)
          fun _ => iprop(toTile m d (rowsOf m d) c s ∗ scopedBufs (thr d (coords c s)) ∗ scopedSems0 (thr d (coords c s))
            ∗ ∃ W', ⌜∀ p ∈ W', p ∈ W ∨ p.2 = none ∨ p.2 = some (0 : Fin 1)⌝ ∗ owes (thr d (coords c s)) O W') := by
  let J : Job F := ⟨d, coords c s, tab m d, ids m d, hpre d⟩
  obtain ⟨RB, hB⟩ := ownBufs_split (F := F) d (coords c s)
  obtain ⟨RS, hS⟩ := ownSems_split (F := F) d (coords c s)
  rw [(K (F := F)).scopedBufs_V facts d (cV (coords c s)) (jV (coords c s)), SparseCore.Cfg.scopedSems0_V (Val := Elt F) d (cV (coords c s)) (jV (coords c s)), hB, hS]
  unfold toTile chunksAt
  iintro ⟨Hlv, -, ⟨Hl, Ht, Hc⟩, ⟨HB, HRB⟩, ⟨HS, HRS⟩, HO⟩
  ihave Hmw := (show levAts (K (F := F)).L (K (F := F)).lev ⊢ Transfers.MayWaits (thr d (coords c s)) (default : HIx 1) O from
    (K (F := F)).mayWaits_none (thr := thr d (coords c s)) hO) $$ Hlv
  ihave Hc := (chunks_start J (m (oLoc d))) $$ Hc
  iapply (wp_wand_r frame _ _)
  isplitr [HRB HRS]
  · iapply (wp_task J (shr c s) (shr c s) O W)
    isplitl [Hl Ht]
    · unfold Given
      isplitl [Hl]; · iexact Hl
      iexact Ht
    isplitl [Hc]; · iexact Hc
    isplitl [HB]; · iexact HB
    isplitl [HS]; · iexact HS
    unfold Duty
    isplitl [Hmw]; · iexact Hmw
    iexists W
    isplitr
    · ipureintro; exact fun p hp => .inl hp
    · iexact HO
  unfold Given Duty
  iintro %_ ⟨⟨Hl, Ht⟩, Hc, HB, HS, -, %W', %hW', HO⟩
  isplitl [Hl Ht Hc]
  · isplitl [Hl]; · iexact Hl
    isplitl [Ht]; · iexact Ht
    iapply (chunks_end J); iexact Hc
  isplitl [HB HRB]; · isplitl [HB] <;> iassumption
  isplitl [HS HRS]; · isplitl [HS] <;> iassumption
  iexists W'
  isplitr
  · ipureintro; exact fun p hp => (hW' p hp).imp_right .inl
  · iexact HO

theorem defs₀_vector (c : Fin τ.nSC) (s : Fin τ.nSub) :
    defs₀ (F := F) (.scVector c s) 0 ()
      = SparseCore.onTile hcore0 hsub0 (fun c s => cc0_k (F := F) (coords c s) tabM (Memref.isWhole_whole _) lstM (Memref.isWhole_whole _) outM (Memref.isWhole_whole _)
            ixM (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8 cc0_scratch9 cc0_scoped0)
          ⟨⟩ c s := rfl

set_option maxRecDepth 16384 in
/-- The launch theorem's obligation on the tasks. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) Variants.none _ Set.univ none _ _)
  rw [defs₀_vector]; simp only [SparseCore.onTile, hci, and_self, ↓reduceDIte]
  exact tile_body m hpre d (Fin.cast nCore_eq c) (Fin.cast nSub_eq i) O W hO

theorem bigSep_tasks (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_eq c)) = bigSep Finset.univ Φ :=
  bigSep_congr fun _ _ => congrArg Φ (Fin.ext rfl)

/-- A SparseCore's pieces are its tasks'. -/
theorem vecSplit : (K (F := F)).VecSplit' (P m) 0 := by
  intro d c
  show toCore m d (m (oLoc d)) (Fin.cast nCore_eq c) ⊢ |={Set.univ}=> iprop(
      (bigSep Finset.univ fun i : Fin ((K (F := F)).nSub 0) => toTile m d (m (oLoc d)) (Fin.cast nCore_eq c) (Fin.cast nSub_eq i))
      ∗ ((bigSep Finset.univ fun i : Fin ((K (F := F)).nSub 0) => toTile m d (rowsOf m d) (Fin.cast nCore_eq c) (Fin.cast nSub_eq i))
        -∗ toCore m d (rowsOf m d) (Fin.cast nCore_eq c)))
  rw [bigSep_tasks (F := F) (toTile m d (m (oLoc d)) (Fin.cast nCore_eq c)), bigSep_tasks (F := F) (toTile m d (rowsOf m d) (Fin.cast nCore_eq c))]
  unfold toCore
  iintro H; imodintro
  isplitl [H]; · iexact H
  iintro H; iexact H

/-! ## The launch element of the ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he : (bigSep Finset.univ fun thr : Thread nD τ => bigSep Finset.univ fun q : Fin 1 => (P (F := F) m).x q thr) = (iprop(emp) : sProp 𝕄) :=
    (bigSep_congr fun _ _ => bigSep_emp_const _).trans (bigSep_emp_const _)
  rw [he, show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main on the TensorCore -/

include m in
/-- A reshape at the head of a program: its operand kept, its result's array written with the operand's elements. -/
theorem wp_reshape (d : Dev nD) {x y : Ref sig .tc} (hxy : x ≠ y) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (f : Buf (Elt F) ((SparseCore.T d).loc x)) (g : Buf (Elt F) ((SparseCore.T d).loc y)) {k : Prog (TpuEff nD τ sig (Elt F) (SparseCore.Sig (ΛP (F := F)) 1) .tc) PUnit}
    {Q : PUnit → sProp 𝕄} :
    iprop(boundary (SparseCore.T d) ∗ ((SparseCore.T d).loc x ↦{fullShare} f) ∗ ((SparseCore.T d).loc y ↦{fullShare} g))
      ⊢ iprop((iprop(boundary (SparseCore.T d) ∗ ((SparseCore.T d).loc x ↦{fullShare} f)
            ∗ ((SparseCore.T d).loc y ↦{fullShare} (fun i => he ▸ shapeCast y.ty.shape f hn i : Buf (Elt F) ((SparseCore.T d).loc y))))
          -∗ wp frame (wpE ((K (F := F)).defs (D (F := F))) 𝒱 (SparseCore.T d) none) Set.univ k Q)
        -∗ wp frame (wpE ((K (F := F)).defs (D (F := F))) 𝒱 (SparseCore.T d) none) Set.univ (hlo rfl (StableHlo.reshape x y he hn hx hy) fun _ => k) Q) := by
  have hne : (Proc.devRef .tc y : DevRef τ sig) ≠ Proc.devRef .tc x := fun h => hxy (Proc.devRef_injective _ h).symm
  let V : Valuation τ sig (Elt F) := Function.update (Function.update (fun b => m (d, b)) (Proc.devRef .tc y) g) (Proc.devRef .tc x) f
  have hVx : V (Proc.devRef .tc x) = f := Function.update_self _ _ _
  have hVy : V (Proc.devRef .tc y) = g := (Function.update_of_ne hne _ _).trans (Function.update_self _ _ _)
  let op : HloOp τ sig (Elt F) := StableHlo.reshape x y he hn hx hy
  have hheld (U : Valuation τ sig (Elt F)) : (held (SparseCore.T d) op.bufs U : sProp 𝕄)
      = iprop(((SparseCore.T d).loc x ↦{fullShare} U (Proc.devRef .tc x)) ∗ ((SparseCore.T d).loc y ↦{fullShare} U (Proc.devRef .tc y))) := by
    unfold held
    rw [show op.bufs = {Proc.devRef .tc x, Proc.devRef .tc y} from rfl,
      SparseCore.bigSep_insert' (fun h => hne (Finset.mem_singleton.mp h).symm), bigSep_singleton]
  have hrx : op.result V (Proc.devRef .tc x) = f := (StableHlo.reshape_result_ne x y he hn hx hy V hxy).trans hVx
  have hry : op.result V (Proc.devRef .tc y) = fun i => he ▸ shapeCast y.ty.shape f hn i :=
    (StableHlo.reshape_result x y he hn hx hy V).trans (by rw [hVx])
  iintro ⟨Hb, Hx, Hy⟩ Hk
  iapply (wp_hlo_within 𝒱 (SparseCore.T d) none Set.univ (op := op) (S := op.bufs) (Finset.Subset.refl _) (V := V)) $$ [Hb Hx Hy]
  · isplitl [Hb]; · iexact Hb
    rw [hheld, hVx, hVy]
    isplitl [Hx] <;> iassumption
  rw [hheld, hrx, hry]
  iexact Hk

theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ (lLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- What @main leaves the claims: `x` and the table at their launch contents, the result at the rows that `x` names. -/
def FIN (d : Dev nD) : sProp 𝕄 :=
  iprop((xLoc d ↦{fullShare} m (xLoc d)) ∗ (tLoc d ↦{fullShare} m (tLoc d)) ∗ (rLoc d ↦{fullShare} out m d))

/-- @main: the reshape of `x`, the call, the reshape of the rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  have hst : (bigSep Finset.univ fun c : Fin ((K (F := F)).nCore 0) => (P m).st 0 d c)
      = iprop((lLoc d ↦{fullShare} ids m d) ∗ (tLoc d ↦{fullShare} tab m d) ∗ (oLoc d ↦{fullShare} m (oLoc d))) :=
    (bigSep_cores (F := F) (toCore m d (m (oLoc d)))).trans (whole_tiles m d _)
  have hdn : (bigSep Finset.univ fun c : Fin ((K (F := F)).nCore 0) => (P m).dn 0 d c)
      = iprop((lLoc d ↦{fullShare} ids m d) ∗ (tLoc d ↦{fullShare} tab m d) ∗ (oLoc d ↦{fullShare} rowsOf m d)) :=
    (bigSep_cores (F := F) (toCore m d (rowsOf m d))).trans (whole_tiles m d _)
  unfold SparseCore.Cfg.tcRes SparseCore.Cfg.tcEnd FIN
  rw [unscopedBufs_eq]
  simp only [main, wp_bind, wp_pure]
  iintro ⟨#Hctx, Hst, ⟨Hb, ⟨Hx, Ht, Hl, Ho, Hr⟩, Hts, -⟩, -⟩
  iapply (wp_reshape m d (x := main_arg0) (y := main_v0) (by decide) rfl shapeCasts_S4096x200_S819200 _ _ (m (xLoc d)) (m (lLoc d))) $$ [Hb Hx Hl]
  · isplitl [Hb]; · iexact Hb
    isplitl [Hx] <;> iassumption
  iintro ⟨Hb, Hx, Hl⟩
  rw [wp_ret]; imodintro
  iapply ((K (F := F)).wp_run (D (F := F)) 𝒱 (EH := EH) (P := P m) κ d 0) $$ [Hst Hx Ht Hl Ho Hr Hb Hts]
  isplitr; · iexact Hctx
  isplitl [Hst]; · iexact Hst
  isplitl [Hl Ht Ho]
  · rw [hst]
    isplitl [Hl]; · iexact Hl
    isplitl [Ht]; · iexact Ht
    iexact Ho
  iintro ⟨Hst, Hdn⟩
  ihave Hdn := (Entails.of_eq hdn) $$ Hdn
  icases Hdn with ⟨-, Ht, Ho⟩
  iapply (wp_reshape m d (x := main_v1) (y := main_v2) (by decide) rfl shapeCasts_S819200x128_S4096x200x128 _ _ (rowsOf m d) (m (rLoc d))) $$ [Hb Ho Hr]
  · isplitl [Hb]; · iexact Hb
    isplitl [Ho] <;> iassumption
  iintro ⟨Hb, -, Hr⟩
  rw [wp_ret]; imodintro; imodintro
  isplitl [Hst]; · iexact Hst
  isplitr [Hb Hts]
  · isplitl [Hx]; · iexact Hx
    isplitl [Ht]; · iexact Ht
    iexact Hr
  isplitl [Hb] <;> iassumption

/-! ## The run -/

/-- What device `d`'s final state holds. -/
def Final (d : Dev nD) (mem : (ℓ : Loc nD τ sig) → Buf (Elt F) ℓ) : Prop :=
  mem (xLoc d) = m (xLoc d) ∧ mem (tLoc d) = m (tLoc d) ∧ mem (rLoc d) = out m d

set_option maxRecDepth 16384 in
theorem hfin (d : Dev nD) (s' : Phys nD τ sig (Elt F)) : iprop(FIN m d ∗ SI s') ⊢ (⌜Final m d s'.mem.mem⌝ : sProp 𝕄) := by
  unfold FIN
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := out m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- The run of the program: `x` and the table unchanged, the result at the rows that `x` names, every counter at zero. -/
theorem run_main [∀ e, Nonempty (Elt F e)] (hpre : PreOK m) :
    θ_run (Cert.KernelIdeal.defs (F := F)) (Cert.KernelIdeal.threads (F := F)) ⟨m, fun _ => 0, ρ⟩
      (fun r => (∀ d : Dev nD, Final m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fun d s' => Final m d s'.mem.mem) (hfin m)
    (fun r => (∀ d : Dev nD, Final m d r.2.mem) ∧ r.2.sem = fun _ => 0) (fun _ h hz => ⟨h, hz⟩)

end Cert.Proof.Gather

end
-- ==== Proof.Value.lean ====
/-
  The value. The reference reads the table at `x` by a gather with out-of-range words filled; the kernel flattens `x`,
  copies the rows that it names, and reshapes. For an `x` whose words all name rows of the table (`Ok`), both are
  `taken x w`: at `(a, b, c)`, column `c` of row `x (a, b)` of the table `w` (`reference_eq`, `kernel_eq`). The claim's
  precondition gives `Ok` (`ok_of_pre`).
-/
module

public import proofs.«01_k».proof.Proof.Launch
public import proofs.«01_k».proof.Proof.Gen.Pre_in_range
public import proofs.«01_k».proof.Proof.Gen.ReferenceIdeal
public import Idealize.ShloMosaic.Lib.ReduceAll
public import Idealize.ShloMosaic.Lib.Pipeline.Value

@[expose] public section

noncomputable section

namespace Cert.Proof.Value

open Cert.ReferenceIdeal Cert.ReferenceIdeal.Gen
open Idealize.ShloMosaic
open Cert.Proof.Gather (tabIx lstIx goal InRange)

variable {F : FTy → Type}

/-! ## Words that name a row -/

/-- Every word of `x` names a row of the table. -/
def Ok (x : IVec S4096x200 32) : Prop := ∀ j, (x j).toNat < 1000002

/-- A word below the number of rows, read signed, is its natural number. -/
theorem toInt_of_lt {v : BitVec 32} (h : v.toNat < 1000002) : v.toInt = v.toNat :=
  BitVec.toInt_eq_toNat_of_lt (by omega)

theorem toInt_rows : (1000002#32 : BitVec 32).toInt = 1000002 := by decide
theorem toInt_last : (1000001#32 : BitVec 32).toInt = 1000001 := by decide
theorem toInt_nil : (0#32 : BitVec 32).toInt = 0 := by decide

/-- The two comparisons that the precondition makes of a word say that it names a row. -/
theorem lt_of_cmp {v : BitVec 32} (h : IntOp.andi (IntOp.cmpi .sge v 0#32) (IntOp.cmpi .slt v 1000002#32) = 1#1) : v.toNat < 1000002 := by
  obtain ⟨h0, h1⟩ := IntOp.andi_eq_one.1 h
  rw [IntOp.cmpi_sge, toInt_nil] at h0
  rw [IntOp.cmpi_slt, toInt_rows] at h1
  have := BitVec.toInt_eq_toNat_cond v
  split at this <;> omega

/-- The two comparisons that the reference makes of a word hold of one that names a row. -/
theorem cmp_of_lt {v : BitVec 32} (h : v.toNat < 1000002) : IntOp.andi (IntOp.cmpi .sge v 0#32) (IntOp.cmpi .sle v 1000001#32) = 1#1 := by
  rw [IntOp.andi_eq_one, IntOp.cmpi_sge, IntOp.cmpi_sle, toInt_nil, toInt_last, toInt_of_lt h]
  omega

/-- Such a word is not negative, so the reference does not wrap it around. -/
theorem select_neg {v a : BitVec 32} (h : v.toNat < 1000002) : Scalar.select (IntOp.cmpi .slt v 0#32) a v = v := by
  refine if_neg fun e => ?_
  have := IntOp.cmpi_slt.1 e
  rw [toInt_nil, toInt_of_lt h] at this
  omega

/-- Where its condition is 1, a select is its first operand. -/
theorem select_of_one {s : Shape} {α : Type} {c : IVec s 1} (a b : s.Idx → α) {i : s.Idx} (h : c i = 1#1) : select c a b i = a i := by
  unfold select
  rw [h]
  rfl

instance : Subsingleton Cert.Pre_in_range.S_.Idx := ⟨fun a b => funext fun k => k.elim0⟩

/-- The claim's precondition, read at every word of `x`. -/
theorem ok_of_pre [FloatOps F] (x : IVec S4096x200 32) (w : FVec F S1000002x128 .f32)
    (h : Cert.Pre_in_range.fn x w = fun _ => 1#1) : Ok x := fun j =>
  lt_of_cmp (Host.reduce_andi_all _ _ _ _ (fun k => k.elim0) (congrFun h _) j)

/-! ## The rows taken -/

/-- The position in `x` of an element of the result; -/
def at2 (i : S4096x200x128.Idx) : S4096x200.Idx := fun a => match a with | ⟨0, _⟩ => i 0 | ⟨1, _⟩ => i 1
/-- the same with the index vector's one axis. -/
def at3 (i : S4096x200x128.Idx) : S4096x200x1.Idx := fun a => match a with | ⟨0, _⟩ => i 0 | ⟨1, _⟩ => i 1 | ⟨2, _⟩ => (0 : Fin 1)

/-- The table's rows at `x`. -/
def taken (x : IVec S4096x200 32) (w : S1000002x128.Idx → Elt F .f32) : S4096x200x128.Idx → Elt F .f32 :=
  fun i => w (tabIx (x (at2 i)).toNat (i 2))

/-! ## The kernel's side -/

/-- The rows that the flattened `x` names, at the result's shape. -/
theorem kernel_eq (x : IVec S4096x200 32) (w : S1000002x128.Idx → Elt F .f32) (h : S4096x200.ShapeCasts Cert.KernelIdeal.S819200)
    (h' : Cert.KernelIdeal.S819200x128.ShapeCasts S4096x200x128) :
    shapeCast S4096x200x128 (goal (F := F) w (shapeCast Cert.KernelIdeal.S819200 x h)) h' = taken x w := by
  funext i
  have h0 : (i 0).val < 4096 := (i 0).isLt
  have h1 : (i 1).val < 200 := (i 1).isLt
  have h2 : (i 2).val < 128 := (i 2).isLt
  have hn : (i 0).val * 200 + (i 1).val < 819200 := by omega
  -- element `(a, b, c)` of the result is element `(200 a + b, c)` of the rows, whose word is `x (a, b)`
  rw [shapeCast_apply _ _ i (fun a => match a with | ⟨0, _⟩ => ⟨(i 0).val * 200 + (i 1).val, hn⟩ | ⟨1, _⟩ => i 2)
    (by
      rw [Shape.rowMajor_val_two, Shape.rowMajor_val_three]
      show ((i 0).val * 200 + (i 1).val) * 128 + (i 2).val = ((i 0).val * 200 + (i 1).val) * 128 + (i 2).val
      rfl)]
  unfold goal taken
  rw [shapeCast_apply x _ _ (at2 i)
    (by
      rw [Shape.rowMajor_val_two, Shape.rowMajor_val_one]
      show (i 0).val * 200 + (i 1).val = ((i 0).val * 200 + (i 1).val) % 819200
      omega)]

/-- Words that all name rows do so in any order. -/
theorem inRange_of_ok {x : IVec S4096x200 32} (hx : Ok x) (h : S4096x200.ShapeCasts Cert.KernelIdeal.S819200) :
    InRange (F := F) (shapeCast Cert.KernelIdeal.S819200 x h) := fun _ => hx _

/-! ## The reference's side -/

/-- The reference's gather: the row at the start index, read signed and clamped to the table. -/
theorem gather_eq (w : S1000002x128.Idx → Elt F .f32) (idx : IVec S4096x200x1 32) (i : S4096x200x128.Idx) {v : ℕ}
    (hi : (idx (at3 i)).toInt = v) (hv : v < 1000002) :
    Host.gather gather_S1000002x128_S4096x200x1_S4096x200x128_2_0_n_n_0_2_1128 w idx i = w (tabIx v (i 2)) := by
  refine congrArg w (funext fun a => Fin.ext ?_)
  show GatherDims.start _ i idx a + GatherDims.batchCoord _ i a + GatherDims.offCoord _ i a = _
  rw [GatherDims.batchCoord_eq_zero _ _ _ List.not_mem_nil, Nat.add_zero]
  have ha : a = (0 : Fin 2) ∨ a = (1 : Fin 2) := match a with | ⟨0, _⟩ => Or.inl rfl | ⟨1, _⟩ => Or.inr rfl
  rcases ha with rfl | rfl
  · rw [GatherDims.offCoord_eq_zero _ _ _ fun h => ((GatherDims.mem_sKept _ _).1 h).1 (List.mem_singleton.2 rfl), Nat.add_zero]
    unfold GatherDims.start
    rw [dif_pos (show (0 : Fin 2) ∈ gather_S1000002x128_S4096x200x1_S4096x200x128_2_0_n_n_0_2_1128.startIndexMap from List.mem_singleton.2 rfl)]
    have hs : GatherDims.siIdx gather_S1000002x128_S4096x200x1_S4096x200x128_2_0_n_n_0_2_1128 i (⟨0, Nat.one_pos⟩ : Fin 1) = at3 i :=
      funext fun b => match b with | ⟨0, _⟩ => rfl | ⟨1, _⟩ => rfl | ⟨2, _⟩ => rfl
    show min (idx (GatherDims.siIdx gather_S1000002x128_S4096x200x1_S4096x200x128_2_0_n_n_0_2_1128 i (⟨0, Nat.one_pos⟩ : Fin 1))).toInt.toNat (1000002 - 1) = v % 1000002
    rw [hs, hi]
    omega
  · unfold GatherDims.start
    rw [dif_neg (show (1 : Fin 2) ∉ gather_S1000002x128_S4096x200x1_S4096x200x128_2_0_n_n_0_2_1128.startIndexMap from
      fun h => absurd (List.mem_singleton.1 h) (by decide)), Nat.zero_add]
    rfl

/-- The start indices of the reference's gather: `x`, negative words wrapped around, with a last axis of one. -/
abbrev starts (x : IVec S4096x200 32) : IVec S4096x200x1 32 :=
  broadcastInDim S4096x200x1 ![0, 1] bcast_S4096x200_S4096x200x1_0_1
    (select (cmpi .slt x (broadcastInDim S4096x200 ![] bcast_S_S4096x200 (constantI S_ 32 0#32)))
      (addi x (broadcastInDim S4096x200 ![] bcast_S_S4096x200 (constantI S_ 32 1000002#32))) x)

/-- Which start indices name a row of the table. -/
abbrev mask (x : IVec S4096x200 32) : IVec S4096x200 1 :=
  Host.reduce IntOp.andi
    (andi (cmpi .sge (starts x) (broadcastInDim S4096x200x1 ![] bcast_S_S4096x200x1 (constantI S_ 32 0#32)))
      (cmpi .sle (starts x) (broadcastInDim S4096x200x1 ![0, 1, 2] bcast_S1x1x1_S4096x200x1_0_1_2
        (broadcastInDim S1x1x1 ![2] bcast_S1_S1x1x1_2 (constantI S1 32 1000001#32)))))
    (constantI S_ 1 1#1) reducesTo_S4096x200x1_S4096x200_d2 h_S_

/-- What the reference returns, as it states it. -/
abbrev reference [FloatOps F] (x : IVec S4096x200 32) (w : FVec F S1000002x128 .f32) : FVec F S4096x200x128 .f32 :=
  select (broadcastInDim S4096x200x128 ![0, 1] bcast_S4096x200_S4096x200x128_0_1 (mask x))
    (Host.gather gather_S1000002x128_S4096x200x1_S4096x200x128_2_0_n_n_0_2_1128 w (starts x))
    (broadcastInDim S4096x200x128 ![] bcast_S_S4096x200x128 (constant S_ .f32 0x7FC00000#32))

/-- A start index's position in `x`. -/
def front (k : S4096x200x1.Idx) : S4096x200.Idx := fun a => match a with | ⟨0, _⟩ => k 0 | ⟨1, _⟩ => k 1

/-- A start index is the word of `x` at its position. -/
theorem starts_apply {x : IVec S4096x200 32} (hx : Ok x) (k : S4096x200x1.Idx) : starts x k = x (front k) := by
  refine (broadcastInDim_apply _ _ _ k (front k) fun a => ?_).trans (select_neg (hx _))
  match a with
  | ⟨0, _⟩ => rfl
  | ⟨1, _⟩ => rfl

/-- Every start index names a row. -/
theorem mask_apply {x : IVec S4096x200 32} (hx : Ok x) (j : S4096x200.Idx) : mask x j = 1#1 := by
  refine Host.reduce_andi_one _ _ _ _ _ rfl fun k => ?_
  have h := cmp_of_lt (hx (front k))
  rw [← starts_apply hx k] at h
  exact h

/-- The reference's result is the table's rows at `x`: no word is filled in, wrapped around or clamped. -/
theorem reference_eq [FloatOps F] {x : IVec S4096x200 32} (w : FVec F S1000002x128 .f32) (hx : Ok x) : reference x w = taken x w := by
  funext i
  have hm : broadcastInDim S4096x200x128 ![0, 1] bcast_S4096x200_S4096x200x128_0_1 (mask x) i = 1#1 := mask_apply hx _
  have hs : (starts x (at3 i)).toInt = (x (at2 i)).toNat :=
    (congrArg BitVec.toInt (starts_apply hx (at3 i))).trans (toInt_of_lt (hx (at2 i)))
  have hg := gather_eq (F := F) w (starts x) i hs (hx (at2 i))
  exact (select_of_one _ _ hm).trans hg

end Cert.Proof.Value

end
-- ==== Proof.lean ====
/-
  The certificate of an embedding lookup on the SparseCores: each of the 32 vector subcores copies the table's rows that
  its part of the index array names. `Proof/Launch.lean` proves the program's run with its result, over any float
  values; `Proof/Value.lean` proves that the result is the reference's, for index words that name rows, and that the
  precondition gives such words. Here the claims are put together: the three frames, the idealization (which rewrites
  nothing), and the equality with the reference.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- What the launch asks of the memory, from the precondition at every device. -/
theorem preOK {F : FTy → Type} [FloatOps F] (m : (ℓ : Loc Cert.KernelIdeal.nD Cert.KernelIdeal.τ Cert.KernelIdeal.sig) → Buf (Elt F) ℓ)
    (h : ∀ d, Value.Ok (m (Gather.xLoc d))) : Gather.PreOK m := fun d => Value.inRange_of_ok (h d) _

/-- The kernel runs, at any machine floats, its arguments unchanged and its counters back at zero. -/
theorem frame_kernel : Cert.quiescent_Kernel := fun m ρ hp =>
  (θ_run Cert.KernelIdeal.defs _ _).mono (fun _ h => ⟨fun d => ⟨(h.1 d).1, (h.1 d).2.1⟩, h.2⟩)
    (Gather.run_main (F := Bits) m ρ (preOK m fun d => Value.ok_of_pre _ _ (hp d)))

/-- The same of the kernel read at the ideal floats. -/
theorem frame_kernelIdeal : Cert.quiescent_KernelIdeal := fun m ρ hp =>
  (θ_run Cert.KernelIdeal.defs _ _).mono (fun _ h => ⟨fun d => ⟨(h.1 d).1, (h.1 d).2.1⟩, h.2⟩)
    (Gather.run_main (F := Ideal) m ρ (preOK m fun d => Value.ok_of_pre _ _ (hp d)))

/-- The reference runs, its arguments unchanged; it has no semaphores. -/
theorem frame_reference : Cert.quiescent_ReferenceIdeal := fun m ρ _ =>
  (θ_run Cert.ReferenceIdeal.defs _ _).mono (fun r h => ⟨fun d => ⟨(h d).2.1, (h d).2.2⟩, sem_eq_zero_of_no_sems (by decide) r.2⟩)
    (Cert.ReferenceIdeal.Value.run (F := Ideal) m ρ)

/-- The same under the precondition. -/
theorem frame_reference_in_range : Cert.quiescent_ReferenceIdeal_pre_in_range := fun m ρ _ => frame_reference m ρ trivial

/-- Kernel and reference return the same: the table's rows at `x`. -/
theorem equal : Cert.algebraic_KernelIdeal_ReferenceIdeal := fun m ρ m' ρ' hp hag => by
  have hok : ∀ d, Value.Ok (m (Gather.xLoc d)) := fun d => Value.ok_of_pre _ _ (hp d)
  refine ⟨fun d => Value.taken (F := Ideal) (m (Gather.xLoc d)) (m (Gather.tLoc d)), ?_, ?_⟩
  · exact (θ_run Cert.KernelIdeal.defs _ _).mono
      (fun _ h d => ⟨(h.1 d).2.2.trans (Value.kernel_eq (F := Ideal) _ _ _ _), (h.1 d).1, (h.1 d).2.1⟩)
      (Gather.run_main (F := Ideal) m ρ (preOK m hok))
  · refine (θ_run Cert.ReferenceIdeal.defs _ _).mono (fun _ h d => ⟨(h d).1.trans ?_, (h d).2.1, (h d).2.2⟩)
      (Cert.ReferenceIdeal.Value.run (F := Ideal) m' ρ')
    rw [(hag d).1, (hag d).2]
    exact Value.reference_eq (F := Ideal) _ (hok d)

theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_in_range, trivial, equal⟩

end Cert.Proof

end
